-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![12288, 1536]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S12288x3072 : Shape := ⟨2, ![12288, 3072]⟩
abbrev S3x1536x1536 : Shape := ⟨3, ![3, 1536, 1536]⟩
abbrev S2x768x3072 : Shape := ⟨3, ![2, 768, 3072]⟩
abbrev S6 : Shape := ⟨1, ![6]⟩
abbrev S2 : Shape := ⟨1, ![2]⟩
abbrev S_ : Shape := ⟨0, ![]⟩
abbrev S1 : Shape := ⟨1, ![1]⟩
abbrev S1x768x1536 : Shape := ⟨3, ![1, 768, 1536]⟩
abbrev S768x1536 : Shape := ⟨2, ![768, 1536]⟩
abbrev S768x3072 : Shape := ⟨2, ![768, 3072]⟩
abbrev S1x768x3072 : Shape := ⟨3, ![1, 768, 3072]⟩

abbrev nBuf : Space → Nat
  | .hbm => 3
  | .vmem => 5
  | .smem => 0
  | _ => 0

abbrev bufTy : (tb : Table) → Fin (tcTables nBuf tb) → BufTy
  | .hbm, ⟨0, _⟩ => ⟨S3072x1536, .bf16⟩
  | .hbm, ⟨1, _⟩ => ⟨S1536x3072, .bf16⟩
  | .hbm, ⟨2, _⟩ => ⟨S12288x3072, .bf16⟩
  | .local _ .vmem, ⟨0, _⟩ => ⟨S3072x1536, .bf16⟩
  | .local _ .vmem, ⟨1, _⟩ => ⟨S1536x3072, .bf16⟩
  | .local _ .vmem, ⟨2, _⟩ => ⟨S3x1536x1536, .bf16⟩
  | .local _ .vmem, ⟨3, _⟩ => ⟨S3x1536x1536, .bf16⟩
  | .local _ .vmem, ⟨4, _⟩ => ⟨S2x768x3072, .bf16⟩
  | _, _ => ⟨S3072x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22 : BitVec 32 := 1#32
  let v30 : BitVec 32 := Scalar.muli v24 c1_i32_22
  let v31 : BitVec 32 := Scalar.addi c0_i32_23 v30
  v31.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31 : BitVec 32 := 1#32
  let v39 : BitVec 32 := Scalar.muli v13 c1_i32_31
  let v40 : BitVec 32 := Scalar.addi c0_i32_32 v39
  v40.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v48 : BitVec 32 := Scalar.muli v24 c1_i32_39
  let v49 : BitVec 32 := Scalar.addi c0_i32_40 v48
  v49.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_47 : BitVec 32 := 1#32
  let v57 : BitVec 32 := Scalar.muli v13 c1_i32_47
  let v58 : BitVec 32 := Scalar.addi c0_i32_48 v57
  v58.toNat
def k0_off1 (d0 : Dev nD) (c0_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3072_i32 : BitVec 32 := 3072#32
  let v68 : BitVec 32 := Scalar.muli v2 c3072_i32
  let v69 : BitVec 32 := Scalar.addi v68 c0_i32_53
  let c0_i32_61 : BitVec 32 := 0#32
  ![v69.toNat, 0]
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_153 : BitVec 32 := 1#32
  let v178 : BitVec 32 := Scalar.muli v24 c1_i32_153
  let v179 : BitVec 32 := Scalar.addi c0_i32_154 v178
  v179.toNat
def k0_dev8 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_163 : BitVec 32 := 1#32
  let v188 : BitVec 32 := Scalar.muli v13 c1_i32_163
  let v189 : BitVec 32 := Scalar.addi c0_i32_164 v188
  v189.toNat
def k0_off2 (d0 : Dev nD) (c0_i32_116 : BitVec 32) (c0_i32_173 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_115 : BitVec 32 := 1#32
  let v140 : BitVec 32 := Scalar.subi v2 c1_i32_115
  let v141 : BitVec 32 := Scalar.subi v140 c0_i32_116
  let c4_i32_117 : BitVec 32 := 4#32
  let c0_i32_118 : BitVec 32 := 0#32
  let v142 : BitVec 1 := Scalar.cmpi .eq c4_i32_117 c0_i32_118
  let c1_i32_119 : BitVec 32 := 1#32
  let v143 : BitVec 32 := Scalar.select v142 c1_i32_119 c4_i32_117
  let v144 : BitVec 32 := Scalar.remsi v141 v143
  let c0_i32_121 : BitVec 32 := 0#32
  let v146 : BitVec 1 := Scalar.cmpi .slt v144 c0_i32_121
  let c0_i32_122 : BitVec 32 := 0#32
  let v147 : BitVec 1 := Scalar.cmpi .slt v143 c0_i32_122
  let v148 : BitVec 1 := Scalar.xori v146 v147
  let c0_i32_120 : BitVec 32 := 0#32
  let v145 : BitVec 1 := Scalar.cmpi .ne v144 c0_i32_120
  let v149 : BitVec 1 := Scalar.andi v148 v145
  let v150 : BitVec 32 := Scalar.addi v144 v143
  let v151 : BitVec 32 := Scalar.select v149 v150 v144
  let c3072_i32_172 : BitVec 32 := 3072#32
  let v200 : BitVec 32 := Scalar.muli v151 c3072_i32_172
  let v201 : BitVec 32 := Scalar.addi v200 c0_i32_173
  let c0_i32_187 : BitVec 32 := 0#32
  ![v201.toNat, 0]
def k0_off3 (d0 : Dev nD) (c0_i32_124 : BitVec 32) (c0_i32_195 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_123 : BitVec 32 := 1#32
  let v152 : BitVec 32 := Scalar.addi v2 c1_i32_123
  let v153 : BitVec 32 := Scalar.addi v152 c0_i32_124
  let c4_i32_125 : BitVec 32 := 4#32
  let c0_i32_126 : BitVec 32 := 0#32
  let v154 : BitVec 1 := Scalar.cmpi .eq c4_i32_125 c0_i32_126
  let c1_i32_127 : BitVec 32 := 1#32
  let v155 : BitVec 32 := Scalar.select v154 c1_i32_127 c4_i32_125
  let v156 : BitVec 32 := Scalar.remsi v153 v155
  let c0_i32_129 : BitVec 32 := 0#32
  let v158 : BitVec 1 := Scalar.cmpi .slt v156 c0_i32_129
  let c0_i32_130 : BitVec 32 := 0#32
  let v159 : BitVec 1 := Scalar.cmpi .slt v155 c0_i32_130
  let v160 : BitVec 1 := Scalar.xori v158 v159
  let c0_i32_128 : BitVec 32 := 0#32
  let v157 : BitVec 1 := Scalar.cmpi .ne v156 c0_i32_128
  let v161 : BitVec 1 := Scalar.andi v160 v157
  let v162 : BitVec 32 := Scalar.addi v156 v155
  let v163 : BitVec 32 := Scalar.select v161 v162 v156
  let c3072_i32_193 : BitVec 32 := 3072#32
  let v221 : BitVec 32 := Scalar.muli v163 c3072_i32_193
  let c1536_i32_194 : BitVec 32 := 1536#32
  let v222 : BitVec 32 := Scalar.addi v221 c1536_i32_194
  let v223 : BitVec 32 := Scalar.addi v222 c0_i32_195
  let c0_i32_209 : BitVec 32 := 0#32
  ![v223.toNat, 0]
def k0_dev9 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_233 : BitVec 32 := 1#32
  let v255 : BitVec 32 := Scalar.muli v24 c1_i32_233
  let v256 : BitVec 32 := Scalar.addi c0_i32_234 v255
  v256.toNat
def k0_dev10 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_243 : BitVec 32 := 1#32
  let v265 : BitVec 32 := Scalar.muli v13 c1_i32_243
  let v266 : BitVec 32 := Scalar.addi c0_i32_244 v265
  v266.toNat
def k0_dev11 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_332 : BitVec 32 := 1#32
  let v358 : BitVec 32 := Scalar.muli v24 c1_i32_332
  let v359 : BitVec 32 := Scalar.addi c0_i32_333 v358
  v359.toNat
def k0_dev12 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_342 : BitVec 32 := 1#32
  let v368 : BitVec 32 := Scalar.muli v13 c1_i32_342
  let v369 : BitVec 32 := Scalar.addi c0_i32_343 v368
  v369.toNat
def k0_dev13 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_414 : BitVec 32 := 1#32
  let v437 : BitVec 32 := Scalar.muli v24 c1_i32_414
  let v438 : BitVec 32 := Scalar.addi c0_i32_415 v437
  v438.toNat
def k0_dev14 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_424 : BitVec 32 := 1#32
  let v447 : BitVec 32 := Scalar.muli v13 c1_i32_424
  let v448 : BitVec 32 := Scalar.addi c0_i32_425 v447
  v448.toNat
abbrev stage0_0 : Fin 1 → Memref sig .tc .vmem S3072x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S12288x1536 : Shape := ⟨2, ![12288, 1536]⟩
abbrev S1536x3072 : Shape := ⟨2, ![1536, 3072]⟩
abbrev S12288x3072 : Shape := ⟨2, ![12288, 3072]⟩

abbrev nBuf : Space → Nat
  | .hbm => 6
  | .vmem => 0
  | .smem => 0
  | _ => 0

abbrev bufTy : (tb : Table) → Fin (tcTables nBuf tb) → BufTy
  | .hbm, ⟨0, _⟩ => ⟨S12288x1536, .bf16⟩
  | .hbm, ⟨1, _⟩ => ⟨S1536x3072, .bf16⟩
  | .hbm, ⟨2, _⟩ => ⟨S12288x1536, .f32⟩
  | .hbm, ⟨3, _⟩ => ⟨S1536x3072, .f32⟩
  | .hbm, ⟨4, _⟩ => ⟨S12288x3072, .f32⟩
  | .hbm, ⟨5, _⟩ => ⟨S12288x3072, .bf16⟩
  | _, _ => ⟨S12288x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ring.lean ====
/-
# The ring: devices, buffers, semaphores

Names for what the kernel works on: the two neighbours of a device, the quarters of a device's own rows of `A`, the landing
slots of the two directions, the two chunks a product is computed into, the row blocks of the result, and the semaphores.

A DIRECTION is a `Bool`: `true` is clockwise (to the next device), `false` counterclockwise (to the previous one). A TRANSFER of
a direction is numbered `i < 6`: hop `i / 2`, half `i % 2`. The rows of the whole `A` are sixteen BLOCKS of 768, block
`4 * d + r` the quarter `r` of device `d`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TalkSites
public import Idealize.ShloMosaic.Lib.Ring
public import Idealize.ShloMosaic.Lib.MemrefSat
public import Idealize.ShloMosaic.Lib.Tactic

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- The protocol's part of the ghost state; all of it: the pipeline's, the protocol's, and counters. -/
abbrev UB : Type := URounds (GSem nD τ sig) Bool
@[inherit_doc UB] abbrev UU : Type := UR sig nD τ × (UB × Counters)

local notation "𝕄" => MT nD τ sig ℕ (Elt F) ℕ UU ℕ

/-- The pipeline's part: the left factor. -/
abbrev EP : Emb (UR sig nD τ) (MT nD τ sig ℕ (Elt F) ℕ UU ℕ) := embL
/-- The cells' rounds library: the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
/-- The protocol's part lies in the users' ghost state. -/
instance ER_landsIn : (ER : Emb UB 𝕄).LandsIn (upEmb : UEmb _ 𝕄) := by unfold ER; infer_instance
/-- The counters of the local copies. -/
abbrev EC : UEmb Counters (MT nD τ sig ℕ (Elt F) ℕ UU ℕ) := countersEmb

/-! ## The devices -/

set_option backward.proofsInPublic true in
/-- The next device round the ring. -/
def nxt (c : Dev nD) : Dev nD := ⟨(c.val + 1) % 4, Nat.mod_lt _ (by decide)⟩
set_option backward.proofsInPublic true in
/-- The previous device. -/
def prv (c : Dev nD) : Dev nD := ⟨(c.val + 3) % 4, Nat.mod_lt _ (by decide)⟩

/-- The device that `c` sends to in direction `d`. -/
def peer (d : Bool) (c : Dev nD) : Dev nD := if d then nxt c else prv c
/-- The device that `c` receives from in direction `d`. -/
def fro (d : Bool) (c : Dev nD) : Dev nD := if d then prv c else nxt c

/-- What one sends to in a direction receives from it in that direction. -/
theorem peer_fro (d : Bool) (c : Dev nD) : peer d (fro d c) = c := by revert d c; decide
@[inherit_doc peer_fro] theorem fro_peer (d : Bool) (c : Dev nD) : fro d (peer d c) = c := by revert d c; decide
/-- Sending in a direction is a permutation of the devices. -/
def ring (d : Bool) : Dev nD ≃ Dev nD := ⟨peer d, fro d, fro_peer d, peer_fro d⟩

/-! ## The buffers -/

/-- The staged own rows of `A`, the staged `B`, the two landing buffers, the chunks, the result. -/
abbrev aM : Memref sig .tc .vmem S3072x1536 .bf16 := Memref.whole cc0_stg0_0
@[inherit_doc aM] abbrev bM : Memref sig .tc .vmem S1536x3072 .bf16 := Memref.whole cc0_stg1_0
@[inherit_doc aM] abbrev oM : Memref sig .tc .hbm S12288x3072 .bf16 := Memref.whole main_v1
@[inherit_doc aM] abbrev kM : Memref sig .tc .vmem S2x768x3072 .bf16 := Memref.whole cc0_scratch2
@[inherit_doc aM] def ringM (d : Bool) : Memref sig .tc .vmem S3x1536x1536 .bf16 :=
  match d with | true => Memref.whole cc0_scratch0 | false => Memref.whole cc0_scratch1

/-- Every quarter, slot, chunk and row block lies within its buffer. -/
theorem inbQ (r : Fin 4) : ∀ a, (![768 * r.val, 0] : Fin 2 → ℕ) a + S768x1536.size a ≤ S3072x1536.size a := by revert r; decide
@[inherit_doc inbQ] theorem inbS (i : Fin 6) : ∀ a, (![i.val / 2, 768 * (i.val % 2), 0] : Fin 3 → ℕ) a + S1x768x1536.size a ≤ S3x1536x1536.size a := by revert i; decide
@[inherit_doc inbQ] theorem inbK (j : Fin 2) : ∀ a, (![j.val, 0, 0] : Fin 3 → ℕ) a + S1x768x3072.size a ≤ S2x768x3072.size a := by revert j; decide
@[inherit_doc inbQ] theorem inbO (b : Fin 16) : ∀ a, (![768 * b.val, 0] : Fin 2 → ℕ) a + S768x3072.size a ≤ S12288x3072.size a := by revert b; decide

/-- The rectangles: quarter `r` of the own rows, slot `i` of a landing buffer, chunk `j`, row block `b` of the result. -/
abbrev rQ (r : Fin 4) : Rect S3072x1536 := Rect.unit (s := S3072x1536) ![768 * r.val, 0] S768x1536.size (inbQ r)
@[inherit_doc rQ] abbrev rS (i : Fin 6) : Rect S3x1536x1536 := Rect.unit (s := S3x1536x1536) ![i.val / 2, 768 * (i.val % 2), 0] S1x768x1536.size (inbS i)
@[inherit_doc rQ] abbrev rK (j : Fin 2) : Rect S2x768x3072 := Rect.unit (s := S2x768x3072) ![j.val, 0, 0] S1x768x3072.size (inbK j)
@[inherit_doc rQ] abbrev rO (b : Fin 16) : Rect S12288x3072 := Rect.unit (s := S12288x3072) ![768 * b.val, 0] S768x3072.size (inbO b)

/-- The memrefs the transfers name: a quarter, a slot, a chunk, a row block of the result. -/
def quarterM (r : Fin 4) : Memref sig .tc .vmem S768x1536 .bf16 := aM.slice (rQ r) (fun _ => rfl)
@[inherit_doc quarterM] def slotM (d : Bool) (i : Fin 6) : Memref sig .tc .vmem S768x1536 .bf16 :=
  ((ringM d).slice (rS i) (fun _ => rfl)).squeeze S768x1536 squeezes_S1x768x1536_S768x1536
@[inherit_doc quarterM] def chunkM (j : Fin 2) : Memref sig .tc .vmem S768x3072 .bf16 :=
  (kM.slice (rK j) (fun _ => rfl)).squeeze S768x3072 squeezes_S1x768x3072_S768x3072
@[inherit_doc quarterM] def outM (b : Fin 16) : Memref sig .tc .hbm S768x3072 .bf16 := oM.slice (rO b) (fun _ => rfl)

/-- The source of transfer `i` in direction `d`: at the first hop an own quarter, later the slot of the hop before. -/
def srcM (d : Bool) (i : Fin 6) : Memref sig .tc .vmem S768x1536 .bf16 :=
  match d, i with
  | true, 0 => quarterM 0 | true, 1 => quarterM 1 | false, 0 => quarterM 2 | false, 1 => quarterM 3
  | d, 2 => slotM d 0 | d, 3 => slotM d 1 | d, 4 => slotM d 2 | d, 5 => slotM d 3

/-! ## The semaphores -/

/-- The barrier semaphore. -/
abbrev barS : Sem sig := (SemArray.scalar (sig.barrier 0 rfl) : Sems sig S_).sem
/-- The DMA semaphore of transfer `i` in direction `d`: at the sender (`r = false`), at the receiver (`r = true`). -/
def xferS (r d : Bool) (i : Fin 6) : DmaSem sig :=
  ⟨2 + (12 * (1 - d.toNat) + (6 * r.toNat + i.val)), by revert r d i; decide⟩
/-- The semaphore of the local copies out of chunk `j`. -/
def copyS (j : Fin 2) : DmaSem sig := ⟨26 + j.val, by revert j; decide⟩

/-- A device's cells under the rounds library: the barrier, and the two ends of each transfer. -/
abbrev CK : Type := Option (Bool × Bool × Fin 6)
/-- The semaphore that a cell's name names. -/
def ksem : CK → SemLoc sig
  | none => .reg barS
  | some (r, d, i) => .dma (xferS r d i)
/-- A named cell of a device; its barrier; an end of one of its transfers. -/
abbrev kcell (x : Dev nD × CK) : GSem nD τ sig := ((x.1 : Thread nD τ), ksem x.2)
@[inherit_doc kcell] abbrev barCell (c : Dev nD) : GSem nD τ sig := kcell (c, none)
@[inherit_doc kcell] abbrev xCell (c : Dev nD) (r d : Bool) (i : Fin 6) : GSem nD τ sig := kcell (c, some (r, d, i))

/-- Different ends of transfers have different semaphores; -/
theorem xferS_inj : ∀ p q : Bool × Bool × Fin 6, xferS p.1 p.2.1 p.2.2 = xferS q.1 q.2.1 q.2.2 → p = q := by decide
/-- so have different cells of one device, -/
theorem ksem_injective : Function.Injective ksem := fun p q h => by
  cases p with
  | none => cases q with
    | none => rfl
    | some y => cases h
  | some x => cases q with
    | none => cases h
    | some y => exact congrArg some (xferS_inj x y (SemLoc.dma.inj h))
/-- and different cells of all devices are different. -/
theorem kcell_injective : Function.Injective (kcell : Dev nD × CK → GSem nD τ sig) := fun p q h => by
  have h1 : (p.1 : Thread nD τ) = (q.1 : Thread nD τ) := congrArg Prod.fst h
  exact Prod.ext (congrArg (fun t : Thread nD τ => t.1) h1) (ksem_injective (congrArg Prod.snd h))

/-- A transfer, and a copy out, has some credit. -/
theorem exists_N : ∃ n, (quarterM 0).view.dmaCredit = n := ⟨_, rfl⟩
@[inherit_doc exists_N] theorem exists_NK : ∃ n, (outM 0).view.dmaCredit = n := ⟨_, rfl⟩
/-- The credit of one transfer, and of one local copy: chosen, so that no proof computes it. -/
def N : ℕ := exists_N.choose
@[inherit_doc N] def NK : ℕ := exists_NK.choose
/-- They are the credits, and are not zero. -/
theorem N_eq : (quarterM 0).view.dmaCredit = N := exists_N.choose_spec
@[inherit_doc N_eq] theorem NK_eq : (outM 0).view.dmaCredit = NK := exists_NK.choose_spec
@[inherit_doc N_eq] theorem N_pos : 0 < N := by rw [← N_eq]; exact View.dmaCredit_pos _ (by decide)
@[inherit_doc N_eq] theorem NK_pos : 0 < NK := by rw [← NK_eq]; exact View.dmaCredit_pos _ (by decide)

/-! ## The blocks that travel -/

set_option backward.proofsInPublic true in
/-- The block that lands at `c` with transfer `i` of direction `d`: it started `i / 2 + 1` devices away, against the direction. -/
def landB (d : Bool) (i : Fin 6) (c : Dev nD) : Fin 16 :=
  if d then ⟨4 * ((c.val + 3 - i.val / 2) % 4) + i.val % 2, by omega⟩
  else ⟨4 * ((c.val + 1 + i.val / 2) % 4) + 2 + i.val % 2, by omega⟩
set_option backward.proofsInPublic true in
/-- Quarter `r` of the device's own rows. -/
def ownB (r : Fin 4) (c : Dev nD) : Fin 16 := ⟨4 * c.val + r.val, by have := c.isLt; have : nD = 4 := rfl; omega⟩
/-- The block that transfer `i` of direction `d` sends from `c`. -/
def srcB (d : Bool) (i : Fin 6) (c : Dev nD) : Fin 16 :=
  match d, i with
  | true, 0 => ownB 0 c | true, 1 => ownB 1 c | false, 0 => ownB 2 c | false, 1 => ownB 3 c
  | d, 2 => landB d 0 c | d, 3 => landB d 1 c | d, 4 => landB d 2 c | d, 5 => landB d 3 c

/-- What is sent is what lands at the neighbour. -/
theorem landB_peer (d : Bool) (i : Fin 6) (c : Dev nD) : landB d i (peer d c) = srcB d i c := by revert d i c; decide

/-- The order in which device `c` computes the row blocks of its result: own quarters first, then each landing of the two directions. -/
def outB (c : Dev nD) (t : Fin 16) : Fin 16 :=
  (![ownB 0 c, ownB 1 c, ownB 2 c, ownB 3 c,
    landB true 0 c, landB false 0 c, landB true 1 c, landB false 1 c, landB true 2 c, landB false 2 c, landB true 3 c, landB false 3 c,
    landB true 4 c, landB false 4 c, landB true 5 c, landB false 5 c] : Fin 16 → Fin 16) t
/-- Every row block is computed once. -/
theorem outB_bijective : ∀ c : Dev nD, Function.Bijective (outB c) := by
  have h : ∀ c : Dev nD, Function.Injective (outB c) := by decide +kernel
  exact fun c => Finite.injective_iff_bijective.mp (h c)

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- What the pipeline stages on device `c`: its rows of `A`, and `B`. -/
def aStg (c : Dev nD) : (cc0_stg0_0 : Ref sig .tc).ty.Contents (Elt F) :=
  (win0_0.blk (0 : Fin 1)).view.read (Elt F) ((s₀ m ρ).mem ((c : Thread nD τ).loc main_arg0))
@[inherit_doc aStg] def bStg (c : Dev nD) : (cc0_stg1_0 : Ref sig .tc).ty.Contents (Elt F) :=
  (win0_1.blk (0 : Fin 1)).view.read (Elt F) ((s₀ m ρ).mem ((c : Thread nD τ).loc main_arg1))

set_option backward.proofsInPublic true in
/-- Block `b` of the rows of `A`. -/
def rowsOf (b : Fin 16) : S768x1536.Idx → Elt F .bf16 :=
  (quarterM ⟨b.val % 4, Nat.mod_lt _ (by decide)⟩).view.read (Elt F) (aStg m ρ (⟨b.val / 4, by omega⟩ : Fin 4))

/-- The product of one block of rows by `B`, as the kernel computes it. -/
def prodOf (a : S768x1536.Idx → Elt F .bf16) (b : S1536x3072.Idx → Elt F .bf16) : S768x3072.Idx → Elt F .bf16 :=
  truncf .bf16 (matmul dot_S768x1536_S1536x3072_S768x3072_1_0_0_1_n_n none a b (constant S768x3072 .f32 0x00000000#32)) bitsLt_bf16_f32

end Cert.RingMatmul

end
-- ==== Proof.Sched.lean ====
/-
# The protocol

What each semaphore's units stand for. A device's barrier cell has two duties, one a neighbour pays: its unit hands over the
landing buffer that this device will send into. The receiving end of a transfer has one duty, paid by the copy that lands: the
slot at the block it carries. The sending end has one duty, paid by the copy when it has read its source: the half share of the
source it was lent.
-/
module

public import proofs.«01_k».proof.Proof.Ring
public import Idealize.ShloMosaic.Lib.Pipeline.BigSepL

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos credOf)

variable {F : FTy → Type} [FloatOps F]

local notation "𝕄" => MT nD τ sig ℕ (Elt F) ℕ UU ℕ

variable (m : (ℓ : Loc nD τ sig) → Buf (Elt F) ℓ) (ρ : Dev nD → PrngReg)

/-! ## The payloads -/

/-- What duty `d` of the barrier of `c` hands over: the landing buffer of direction `d` on the device `c` sends to. -/
def barPay (c : Dev nD) (d : Bool) : sProp 𝕄 := iprop(∃ X, owns (peer d c : Thread nD τ) (ringM d) fullShare X)
/-- What a transfer hands over: at its sending end the share of the source back, at its receiving end the slot at its block. -/
def xferPay (c : Dev nD) (r d : Bool) (i : Fin 6) : sProp 𝕄 :=
  if r then owns (c : Thread nD τ) (slotM d i) fullShare (rowsOf m ρ (landB d i c))
  else owns (c : Thread nD τ) (srcM d i) fullShare.right (rowsOf m ρ (srcB d i c))
/-- The payload of a cell's duty. -/
def payOf (c : Dev nD) (k : CK) (d : Bool) : sProp 𝕄 :=
  match k with
  | none => barPay c d
  | some (r, d', i) => xferPay m ρ c r d' i

/-- Every payload can be kept in a cell's invariant. -/
instance payOf_storable (c : Dev nD) (k : CK) (d : Bool) : BI.Storable (upEmb : UEmb _ 𝕄) (payOf m ρ c k d) := by
  match k with
  | none => unfold payOf barPay; infer_instance
  | some (r, d', i) => unfold payOf xferPay; dsimp only; split <;> infer_instance

/-! ## The schedule -/

open Classical in
/-- The cell name of a semaphore that has one. -/
def ckOf (sm : SemLoc sig) : Option CK := if h : ∃ k, ksem k = sm then some h.choose else none
/-- A named semaphore's cell is the one that names it. -/
theorem ckOf_ksem (k : CK) : ckOf (ksem k) = some k := by
  have h : ∃ k', ksem k' = ksem k := ⟨k, rfl⟩
  unfold ckOf; rw [dif_pos h, ksem_injective h.choose_spec]

/-- The duties of a cell: the barrier has one for each neighbour, an end of a transfer has one. -/
def dutiesOf : CK → Finset Bool
  | none => Finset.univ
  | some _ => {false}
/-- The units that one duty pays: one at the barrier, a transfer's credit at its ends. -/
def amountOf : CK → ℕ
  | none => 1
  | some _ => N
/-- Every duty pays something. -/
theorem amountOf_pos : ∀ k, 0 < amountOf k
  | none => Nat.one_pos
  | some _ => N_pos
/-- The index at which a cell's units are owed and credited, and its level: a wait at an index is allowed while everything owed
    lies above it. -/
def kidx : CK → ℕ
  | none => 1
  | some (true, _, i) => 2 + i.val
  | some (false, _, _) => 0

/-- One round on every cell. -/
def Rd : Rounds.Schedule (GSem nD τ sig) Bool 𝕄 where
  duties g r := if r = 0 ∧ g.1.2 = .tc then ((ckOf g.2).elim ∅ dutiesOf) else ∅
  unitless _ := False
  amount g _ _ := (ckOf g.2).elim 1 amountOf
  payload g _ d := (ckOf g.2).elim iprop(emp) fun k => payOf m ρ g.1.1 k d
  amount_pos g _ _ _ := by
    rcases h : ckOf g.2 with _ | k
    · rw [Option.elim_none]; exact Nat.one_pos
    · rw [Option.elim_some]; exact amountOf_pos k

/-- Every payload of the schedule can be kept in a cell's invariant. -/
instance Rd_payload_storable (g : GSem nD τ sig) (r : ℕ) (d : Bool) : BI.Storable (upEmb : UEmb _ 𝕄) ((Rd (F := F) m ρ).payload g r d) := by
  dsimp only [Rd]
  cases ckOf g.2 with
  | none => exact (inferInstance : BI.Storable (upEmb : UEmb _ 𝕄) iprop(emp))
  | some k => exact payOf_storable m ρ g.1.1 k d

section Tables
variable (c : Dev nD) (k : CK)

omit [FloatOps F] in
/-- The schedule, read at a named cell: its duties in its one round, -/
theorem duties_cell : (Rd (F := F) m ρ).duties (kcell (c, k)) 0 = dutiesOf k := by
  dsimp only [Rd]; rw [if_pos ⟨rfl, rfl⟩, ckOf_ksem k]; rfl
omit [FloatOps F] in
/-- none later, -/
theorem duties_later (g : GSem nD τ sig) : ∀ r, 1 ≤ r → (Rd (F := F) m ρ).duties g r = ∅ :=
  fun r hr => by dsimp only [Rd]; rw [if_neg fun h => by omega]
omit [FloatOps F] in
/-- the units of each, -/
theorem amount_cell (d : Bool) : (Rd (F := F) m ρ).amount (kcell (c, k)) 0 d = amountOf k := by
  dsimp only [Rd]; rw [ckOf_ksem k]; rfl
omit [FloatOps F] in
/-- and what each hands over. -/
theorem payload_cell (d : Bool) : (Rd (F := F) m ρ).payload (kcell (c, k)) 0 d = payOf m ρ c k d := by
  dsimp only [Rd]; rw [ckOf_ksem k]; rfl
omit [FloatOps F] in
/-- A barrier's round is two units, -/
theorem expect_bar : (Rd (F := F) m ρ).expect (barCell c) 0 = 2 := by
  unfold Schedule.expect Schedule.amountOf
  rw [duties_cell, Finset.sum_congr rfl fun d _ => amount_cell m ρ c none d]; rfl
omit [FloatOps F] in
/-- and the round at an end of a transfer is one transfer's credit. -/
theorem expect_xfer (r d : Bool) (i : Fin 6) : (Rd (F := F) m ρ).expect (xCell c r d i) 0 = N := by
  unfold Schedule.expect Schedule.amountOf
  rw [duties_cell, Finset.sum_congr rfl fun d' _ => amount_cell m ρ c (some (r, d, i)) d']; exact Finset.sum_singleton _ _
omit [FloatOps F] in
/-- What a device's barrier wait gives it: both landing buffers it will send into. -/
theorem rest_bar : bigSep ((Rd (F := F) m ρ).duties (barCell c) 0 \ ∅) (fun d => (Rd (F := F) m ρ).payload (barCell c) 0 d)
    = iprop(barPay (F := F) c true ∗ barPay (F := F) c false) := by
  rw [Finset.sdiff_empty, duties_cell, bigSep_congr fun d _ => payload_cell m ρ c none d]
  exact bigSep_univ_eq_bigSepL [true, false] (by decide) (by decide) _
omit [FloatOps F] in
/-- What the wait at an end of a transfer gives. -/
theorem rest_xfer (r d : Bool) (i : Fin 6) :
    bigSep ((Rd (F := F) m ρ).duties (xCell c r d i) 0 \ ∅) (fun d' => (Rd (F := F) m ρ).payload (xCell c r d i) 0 d') = xferPay m ρ c r d i := by
  rw [Finset.sdiff_empty, duties_cell, bigSep_congr fun d' _ => payload_cell m ρ c (some (r, d, i)) d']
  exact bigSep_singleton

end Tables

/-! ## What each device owes at launch; the levels -/

/-- The indices at which units are owed, and their levels: an index is its own level. -/
abbrev L : GSem nD τ sig → Finset ℕ := SiteBlocks.L 8
@[inherit_doc L] abbrev lv : GSem nD τ sig → ℕ → ℕ := SiteBlocks.lv

/-- A payment of all the units that one duty of a cell is owed, at the cell's index. -/
abbrev payTo (x : Dev nD × CK) : Pay nD τ sig := (kcell x, kidx x.2, amountOf x.2)
/-- The cells a device owes at its barrier signals, and with its transfers from number `i` on, in program order. -/
abbrev barCodes (c : Dev nD) : List (Dev nD × CK) := [(fro true c, none), (fro false c, none)]
@[inherit_doc barCodes] def sendCodes (c : Dev nD) (i : ℕ) : List (Dev nD × CK) :=
  ((List.finRange 6).drop i).flatMap fun i => [(peer true c, some (true, true, i)), (peer false c, some (true, false, i))]
/-- What it owes with its transfers from number `i` on; all it owes. -/
def sendDues (c : Dev nD) (i : ℕ) : List (Pay nD τ sig) := (sendCodes c i).map payTo
@[inherit_doc sendDues] def dueL (c : Dev nD) : List (Pay nD τ sig) := (barCodes c ++ sendCodes c 0).map payTo

/-- What transfer `i` of direction `d` owes the neighbour. -/
abbrev sendPay (c : Dev nD) (d : Bool) (i : Fin 6) : Pay nD τ sig := (xCell (peer d c) true d i, 2 + i.val, N)

/-- What a device owes at launch: a unit to each neighbour's barrier, and all its transfers. -/
theorem dueL_eq (c : Dev nD) : dueL c = (barCell (fro true c), 1, 1) :: (barCell (fro false c), 1, 1) :: sendDues c 0 := rfl
/-- What is owed from transfer `i` on: that transfer both ways, and what is owed from the next one on. -/
theorem sendDues_lt (c : Dev nD) (i : Fin 6) : sendDues c i.val = sendPay c true i :: sendPay c false i :: sendDues c (i.val + 1) := by
  unfold sendDues sendCodes
  rw [List.drop_eq_getElem_cons (by rw [List.length_finRange]; exact i.isLt), List.getElem_finRange, List.flatMap_cons, List.map_append]; rfl
/-- After the last transfer nothing is owed. -/
theorem sendDues_none (c : Dev nD) (i : ℕ) (hi : 6 ≤ i) : sendDues c i = [] := by
  unfold sendDues sendCodes; rw [List.drop_eq_nil_of_le (by rw [List.length_finRange]; exact hi)]; rfl

/-- What is owed with transfers from number `i` on is owed on receiving cells, at an index of at least `2 + i`. -/
theorem sendDues_above (c : Dev nD) (i : ℕ) : ∀ x ∈ sendDues c i, x.1.1.2 = .tc ∧ 2 + i ≤ x.2.1 ∧ x.2.1 < 8 := by
  induction h : 6 - i generalizing i with
  | zero => intro x hx; rw [sendDues_none c i (by omega)] at hx; cases hx
  | succ n ih =>
    intro x hx
    have hi : i < 6 := by omega
    rw [sendDues_lt c ⟨i, hi⟩] at hx
    rcases List.mem_cons.mp hx with rfl | hx
    · exact ⟨rfl, le_refl _, by dsimp only; omega⟩
    rcases List.mem_cons.mp hx with rfl | hx
    · exact ⟨rfl, le_refl _, by dsimp only; omega⟩
    · obtain ⟨h1, h2, h3⟩ := ih (i + 1) (by omega) x hx
      exact ⟨h1, by omega, h3⟩
/-- Everything owed at launch is owed at an index from 1 to 7. -/
theorem dueL_above (c : Dev nD) : ∀ x ∈ dueL c, x.1.1.2 = .tc ∧ 1 ≤ x.2.1 ∧ x.2.1 < 8 := by
  intro x hx
  rw [dueL_eq] at hx
  rcases List.mem_cons.mp hx with rfl | hx
  · exact ⟨rfl, le_refl _, by dsimp only; omega⟩
  rcases List.mem_cons.mp hx with rfl | hx
  · exact ⟨rfl, le_refl _, by dsimp only; omega⟩
  · obtain ⟨h1, h2, h3⟩ := sendDues_above c 0 x hx
    exact ⟨h1, by omega, h3⟩

omit [FloatOps F] in
/-- A wait at an index below all that is owed is allowed. -/
theorem mayWait (c : Dev nD) (sm : SemLoc sig) (i : ℕ) (hi : i < 8) (l : List (Pay nD τ sig)) (hl : ∀ x ∈ l, x.1.1.2 = .tc ∧ i + 1 ≤ x.2.1 ∧ x.2.1 < 8) :
    (levAts L lv : sProp 𝕄) ⊢ MayWait (c : Thread nD τ) sm i (tallyL l) :=
  SiteBlocks.mayWait_of hi c sm _ fun g k h => by
    obtain ⟨x, hx, rfl, rfl⟩ := tallyL_pos h
    obtain ⟨h1, h2, h3⟩ := hl x hx
    exact ⟨SiteBlocks.mem_L' h1 h3, h2⟩

/-! ## The credits the launch deals -/

/-- The order of what is owed does not matter. -/
theorem tallyL_perm {l l' : List (Pay nD τ sig)} (h : l.Perm l') : tallyL l = tallyL l' := by
  induction h with
  | nil => rfl
  | cons x _ ih => rw [tallyL, tallyL, ih]
  | swap x y l => rw [tallyL, tallyL, tallyL, tallyL, ← add_assoc, ← add_assoc, add_comm y.tally]
  | trans _ _ h1 h2 => exact h1.trans h2

/-- The transfers of a device, both directions. -/
abbrev xfers : List (Bool × Fin 6) :=
  [(true, 0), (true, 1), (true, 2), (true, 3), (true, 4), (true, 5), (false, 0), (false, 1), (false, 2), (false, 3), (false, 4), (false, 5)]
/-- The cells of device `c` that the devices together owe. -/
def credCodes (c : Dev nD) : List (Dev nD × CK) := (c, none) :: (c, none) :: xfers.map fun x => (c, some (true, x.1, x.2))

/-- What all devices owe to the cells of `c`: two units at its barrier, and one transfer at each receiving end; -/
theorem codes_perm : ∀ c : Dev nD, (((List.finRange nD).flatMap fun d => barCodes d ++ sendCodes d 0).filter fun x => x.1 = c).Perm (credCodes c) := by
  decide +kernel

/-- so are the credits of `c`. -/
theorem credOf_perm (c : Dev nD) : (credOf dueL c).Perm ((credCodes c).map payTo) := by
  have h : credOf dueL c = ((((List.finRange nD).flatMap fun d => barCodes d ++ sendCodes d 0).filter fun x => x.1 = c).map payTo) := by
    unfold credOf TalkSites.allPays dueL
    rw [← List.map_flatMap, List.filter_map]
    refine congrArg (List.map payTo) (List.filter_congr fun x _ => ?_)
    exact decide_eq_decide.mpr ⟨fun h => congrArg (fun t : Thread nD τ => t.1) h, fun h => congrArg (fun d : Dev nD => (d.tc : Thread nD τ)) h⟩
  rw [h]
  exact (codes_perm c).map _

omit [FloatOps F] in
/-- The launch deals a device the two units of its barrier and the units of its twelve landings. -/
theorem creds (c : Dev nD) : (Pipeline.launchCred (fun d => tallyL (dueL d)) c : sProp 𝕄)
    ⊢ iprop(cred (tallyAt (barCell c) 1 2) ∗ bigSep Finset.univ fun x : Bool × Fin 6 => cred (tallyAt (xCell c true x.1 x.2) (2 + x.2.val) N)) := by
  rw [TalkSites.launchCred_tallyL dueL (fun c x hx => (dueL_above c x hx).1) c, tallyL_perm (credOf_perm c),
    bigSep_univ_eq_bigSepL xfers (by decide) (by decide)]
  unfold credCodes
  rw [List.map_cons, List.map_cons, tallyL, tallyL, ← add_assoc, List.map_map]
  refine (cred_add _ _).1.trans (BIClass.sep_mono (Entails.of_eq (congrArg cred (tallyAt_add _ _ _ _))) ?_)
  rw [TalkSites.cred_tallyL, bigSepL_map]
  exact Entails.rfl

end Cert.RingMatmul

end
-- ==== Proof.Steps.lean ====
/-
# The steps of the body

One rule per kind of instruction: a barrier signal, the barrier wait, a send, a wait at an end of a transfer, a load of a row block,
a load of `B`, a store of a product into a chunk, the copy of a chunk out to the result, and the wait for it. Each is stated once,
for every direction, transfer, chunk and block.
-/
module

public import proofs.«01_k».proof.Proof.Sched

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos credOf)

variable {F : FTy → Type} [FloatOps F]

local notation "𝕄" => MT nD τ sig ℕ (Elt F) ℕ UU ℕ

variable (m : (ℓ : Loc nD τ sig) → Buf (Elt F) ℓ) (ρ : Dev nD → PrngReg)

/-- No loop of the program needs a variant. -/
abbrev 𝒱₀ : Variants := Variants.none

/-- What a program needs on device `c` so that it ends at `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The resources -/

/-- What every device knows throughout: every cell's invariant and that its round is open, and the levels. -/
def ctx (K : Dev nD × CK → ℕ) : sProp 𝕄 :=
  iprop((bigSep Finset.univ fun x : Dev nD × CK => iprop(cellInv ER (Rd m ρ) (K x) (kcell x) ∗ reached ER (kcell x) 0)) ∗ levAts L lv)
/-- What every device knows stays known. -/
instance ctx_persistent (K : Dev nD × CK → ℕ) : Persistent (ctx (F := F) m ρ K) := by unfold ctx; infer_instance

/-- What `c` still owes, whatever it has waited for. -/
def Ow (c : Dev nD) (l : List (Pay nD τ sig)) : sProp 𝕄 := iprop(∃ W, owes (c : Thread nD τ) (tallyL l) W)
/-- The rights to one send of `c`: the two duties it pays. -/
def sendToks (c : Dev nD) (d : Bool) (i : Fin 6) : sProp 𝕄 :=
  iprop(dutyTok ER (xCell c false d i) 0 false ∗ dutyTok ER (xCell (peer d c) true d i) 0 false)
/-- The position at an end of a transfer, before its wait. -/
def at₀ (c : Dev nD) (r d : Bool) (i : Fin 6) : sProp 𝕄 := atPos ER (xCell c r d i) 0 ∅ 0
/-- The units of an end of a transfer, to be waited for. -/
def units (c : Dev nD) (r d : Bool) (i : Fin 6) : sProp 𝕄 := cred (tallyAt (xCell c r d i) (kidx (some (r, d, i))) N)
/-- An end of a transfer after its wait. -/
def zero (c : Dev nD) (r d : Bool) (i : Fin 6) : sProp 𝕄 := semVal (xCell c r d i) 0
/-- A buffer held, whatever it contains. -/
def some' (c : Dev nD) {s : Shape} {sp : Space} (v : Memref sig .tc sp s .bf16) : sProp 𝕄 := iprop(∃ X, owns (c : Thread nD τ) v fullShare X)
/-- Chunk `j` at rest, holding anything; holding `X`; and being copied out to block `b`. -/
def idle (c : Dev nD) (j : Fin 2) : sProp 𝕄 := iprop(some' c (chunkM j) ∗ semVal ((c : Thread nD τ), SemLoc.dma (copyS j)) 0)
@[inherit_doc idle] def ready (c : Dev nD) (j : Fin 2) (X : S768x3072.Idx → Elt F .bf16) : sProp 𝕄 :=
  iprop(owns (c : Thread nD τ) (chunkM j) fullShare X ∗ semVal ((c : Thread nD τ), SemLoc.dma (copyS j)) 0)
@[inherit_doc idle] def flying (c : Dev nD) (j : Fin 2) (b : Fin 16) (X : S768x3072.Idx → Elt F .bf16) : sProp 𝕄 :=
  Transfers.Flight EC (c : Thread nD τ) (.dma (copyS j)) 0 NK iprop(owns (c : Thread nD τ) (outM b) fullShare X ∗ some' c (chunkM j))

section
variable (K : Dev nD × CK → ℕ)

omit [FloatOps F] in
/-- One cell's invariant and round out of what every device knows; and the levels. -/
theorem ctx_cell (x : Dev nD × CK) : ctx m ρ K ⊢ iprop(cellInv ER (Rd (F := F) m ρ) (K x) (kcell x) ∗ reached ER (kcell x) 0) := by
  unfold ctx; exact sep_elim_left.trans (BI.bigSep_elim (Finset.mem_univ x))
omit [FloatOps F] in
@[inherit_doc ctx_cell] theorem ctx_lev : ctx (F := F) m ρ K ⊢ levAts L lv := by
  unfold ctx; iintro ⟨-, H⟩; iexact H

/-! ## The barrier -/

variable (c : Dev nD)

omit [FloatOps F] in
/-- What a signal hands over. -/
theorem signal_pay (d : Bool) : (Rd (F := F) m ρ).payload ((fro d c : Thread nD τ), .reg barS) 0 d = some' c (ringM d) :=
  (payload_cell m ρ (fro d c) none d).trans (by unfold payOf barPay; dsimp only; rw [peer_fro]; rfl)

/-- A signal to the barrier of the device that sends to `c` in direction `d`, handing it `c`'s landing buffer. -/
theorem step_signal (d : Bool) {n : Dev nD} (hn : n = fro d c) {sm : Sem sig} (hsm : sm = barS) (l : List (Pay nD τ sig))
    {α : Type} {Q : α → sProp 𝕄} {k : PUnit → Prog (TpuEff nD τ sig (Elt F) Λ₀ .tc) α} :
    ctx m ρ K ⊢ iprop(dutyTok ER (barCell (fro d c)) 0 d -∗ some' c (ringM d) -∗ Ow c ((barCell (fro d c), 1, 1) :: l)
      -∗ (Ow c l -∗ run c (k ⟨⟩) Q) -∗ run c (.op (.semSignal (Dev.tc n : Thread nD τ) sm 1) k) Q) := by
  subst hn hsm
  iintro #Hctx Ht Hb Ho Hk
  unfold Ow
  icases Ho with ⟨%W, HO⟩
  ihave #HC := (ctx_cell m ρ K (fro d c, none)) $$ Hctx
  icases HC with ⟨#HI, #Hr⟩
  iapply (Rounds.wp_signal 𝒱₀ ER (Rd m ρ) (c : Thread nD τ) none (dst := (fro d c : Thread nD τ)) (sem := barS) (κ := K (fro d c, none))
      (d := d) (show d ∈ (Rd m ρ).duties (kcell (fro d c, none)) 0 by rw [duties_cell]; exact Finset.mem_univ _) (amount_cell m ρ (fro d c) none d) 1 (tallyL l)
      (add_comm _ _)) $$ [HO Ht Hb]
  · isplitr; · iexact HI
    isplitl [HO]; · iexact HO
    isplitl [Ht]; · iexact Ht
    isplitl [Hb]
    · iapply (Entails.of_eq (signal_pay m ρ c d).symm); iexact Hb
    · iexact Hr
  iintro HO
  iapply Hk
  iexists W; iexact HO

/-- The barrier wait, which gives both landing buffers `c` will send into. -/
theorem step_barrier {sm : Sem sig} (hsm : sm = barS) {α : Type} {Q : α → sProp 𝕄} {k : PUnit → Prog (TpuEff nD τ sig (Elt F) Λ₀ .tc) α} :
    ctx m ρ K ⊢ iprop(cred (tallyAt (barCell c) 1 2) -∗ atPos ER (barCell c) 0 ∅ 0 -∗ Ow c (sendDues c 0)
      -∗ ((some' (peer true c) (ringM true) ∗ some' (peer false c) (ringM false) ∗ semVal (barCell c) 0 ∗ Ow c (sendDues c 0)) -∗ run c (k ⟨⟩) Q)
      -∗ run c (.op (.semWait sm 2) k) Q) := by
  subst hsm
  iintro #Hctx Hc Hat Ho Hk
  unfold Ow
  icases Ho with ⟨%W, HO⟩
  ihave #HC := (ctx_cell m ρ K (c, none)) $$ Hctx
  icases HC with ⟨#HI, #Hr⟩
  ihave #Hlev := (ctx_lev m ρ K) $$ Hctx
  iapply (Rounds.wp_wait_rest_token 𝒱₀ ER (Rd m ρ) (c : Thread nD τ) none (κ := K (c, none))
      (wpE_semWait_eq 𝒱₀ (c : Thread nD τ) none Set.univ) (Set.mem_univ _) 1 (sm := ksem none) (O := tallyL (sendDues c 0)) (W := W) (R := 0) (m := 0) (T := ∅)
      ((Nat.zero_add 2).trans (expect_bar m ρ c).symm)) $$ [Hc HO Hat]
  · isplitr; · iexact HI
    isplitl [Hc]; · iexact Hc
    isplitl [HO]; · iexact HO
    isplitr
    · iapply (mayWait c _ 1 (by decide) (sendDues c 0) (fun x hx => sendDues_above c 0 x hx)); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ _)) $$ [Hat] with Hz
  · isplitr; · iexact HI
    iexact Hat
  icases Hp with ⟨H1, H2⟩
  iapply Hk
  isplitl [H1]; · unfold barPay some'; iexact H1
  isplitl [H2]; · unfold barPay some'; iexact H2
  isplitl [Hz]; · iexact Hz
  iexists _; iexact HO

/-! ## The transfers -/

/-- A transfer into any slot has the same credit. -/
theorem slot_credit (d : Bool) (i : Fin 6) : (slotM d i).view.amount (.dma (xferS true d i)) = N := by
  cases d <;> exact N_eq
omit [FloatOps F] in
/-- An end of a transfer has its one duty, -/
theorem xfer_mem (c : Dev nD) (r d : Bool) (i : Fin 6) : false ∈ (Rd (F := F) m ρ).duties (xCell c r d i) 0 := by
  rw [duties_cell]; exact Finset.mem_singleton_self _
omit [FloatOps F] in
/-- which hands over that transfer's payload. -/
theorem xfer_pay (c : Dev nD) (r d : Bool) (i : Fin 6) : (Rd (F := F) m ρ).payload (xCell c r d i) 0 false = xferPay m ρ c r d i := by
  rw [payload_cell]; rfl

/-- A send: the two ends' duties, the neighbour's slot and the source's half share go with the copy, whose units pay what `c` owes. -/
theorem step_send (d : Bool) (i : Fin 6) {n : Dev nD} (hn : n = peer d c) {src dst : Memref sig .tc .vmem S768x1536 .bf16}
    (hs : src = srcM d i) (hd : dst = slotM d i) {sS sR : DmaSem sig} (hsS : sS = xferS false d i) (hsR : sR = xferS true d i)
    (l' l : List (Pay nD τ sig)) (hl : l' = sendPay c d i :: l)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    ctx m ρ K ⊢ iprop(sendToks c d i -∗ some' (peer d c) (slotM d i) -∗ owns (c : Thread nD τ) (srcM d i) fullShare.right (rowsOf m ρ (srcB d i c)) -∗ Ow c l'
      -∗ ((units c false d i ∗ Ow c l) -∗ run c (k ⟨⟩) Q)
      -∗ run c (.op (.enqueueDma src (.remote (Dev.tc n : Thread nD τ) dst (.dma sS) hsc) (.dma sR) hsrc hdst hsem) k) Q) := by
  subst hn hs hd hsS hsR hl
  iintro #Hctx Ht Hd Hs Ho Hk
  unfold Ow sendToks some' owns
  icases Ho with ⟨%W, HO⟩
  icases Ht with ⟨Ht1, Ht2⟩
  icases Hd with ⟨%X, %fd, %hfd, Hd⟩
  icases Hs with ⟨%fs, %hfs, Hs⟩
  ihave #HC1 := (ctx_cell m ρ K (c, some (false, d, i))) $$ Hctx
  icases HC1 with ⟨#HI1, #Hr1⟩
  ihave #HC2 := (ctx_cell m ρ K (peer d c, some (true, d, i))) $$ Hctx
  icases HC2 with ⟨#HI2, #Hr2⟩
  iapply (Rounds.wp_send_pointsTo 𝒱₀ ER (Rd m ρ) (c : Thread nD τ) none (κ₁ := K (c, some (false, d, i))) (κ₂ := K (peer d c, some (true, d, i)))
      (r₁ := 0) (r₂ := 0) (d₁ := false) (d₂ := false) (fd := fd)
      (xfer_mem m ρ c false d i) (xfer_mem m ρ (peer d c) true d i)
      (2 + i.val) 0 N (slot_credit d i) (amount_cell m ρ c (some (false, d, i)) false) (amount_cell m ρ (peer d c) (some (true, d, i)) false)
      (tallyL l) (add_comm _ _) (W := W)
      ((owns_intro _ _ _ _).trans (Entails.of_eq (by rw [hfs]; exact (xfer_pay m ρ c false d i).symm)))
      ((owns_intro _ _ _ _).trans (Entails.of_eq (by rw [View.read_write_univ, hfs, ← landB_peer]; exact (xfer_pay m ρ (peer d c) true d i).symm))))
    $$ [HO Ht1 Ht2 Hd Hs]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · unfold units kidx; iexact Hc
  iexists W; iexact HO

/-- A wait at an end of a transfer, while only sends from number `j` on are owed: it gives what the transfer hands over there. -/
theorem step_wait (r d : Bool) (i : Fin 6) (j : ℕ) (hj : kidx (some (r, d, i)) < 2 + j ∧ kidx (some (r, d, i)) < 8)
    {sm : DmaSem sig} (hsm : sm = xferS r d i) {sp : Space} {s' : Shape} {e' : EltTy} {src : Memref sig .tc sp s' e'} {dst : Memref sig .tc .vmem S768x1536 .bf16}
    (hN : dst.view.dmaCredit = N) {hsrc : src.view.WordExact} {hdst : dst.view.WordExact} {α : Type} {Q : α → sProp 𝕄} {k : PUnit → Prog (TpuEff nD τ sig (Elt F) Λ₀ .tc) α} :
    ctx m ρ K ⊢ iprop(units c r d i -∗ at₀ c r d i -∗ Ow c (sendDues c j)
      -∗ ((xferPay m ρ c r d i ∗ zero c r d i ∗ Ow c (sendDues c j)) -∗ run c (k ⟨⟩) Q)
      -∗ run c (.op (.waitDma2 sm src dst hsrc hdst) k) Q) := by
  subst hsm
  iintro #Hctx Hc Hat Ho Hk
  unfold Ow units at₀ zero
  icases Ho with ⟨%W, HO⟩
  ihave #HC := (ctx_cell m ρ K (c, some (r, d, i))) $$ Hctx
  icases HC with ⟨#HI, #Hr⟩
  ihave #Hlev := (ctx_lev m ρ K) $$ Hctx
  iapply (Rounds.wp_wait_rest_token 𝒱₀ ER (Rd m ρ) (c : Thread nD τ) none (κ := K (c, some (r, d, i)))
      (wpE_waitDma2_eq 𝒱₀ (c : Thread nD τ) none Set.univ) (Set.mem_univ _) (kidx (some (r, d, i))) (sm := ksem (some (r, d, i))) (O := tallyL (sendDues c j)) (W := W) (R := 0) (m := 0) (T := ∅)
      ((Nat.zero_add _).trans (hN.trans (expect_xfer m ρ c r d i).symm))) $$ [Hc HO Hat]
  · isplitr; · iexact HI
    isplitl [Hc]; · rw [hN]; iexact Hc
    isplitl [HO]; · iexact HO
    isplitr
    · iapply (mayWait c _ _ hj.2 (sendDues c j) (fun x hx => by
        obtain ⟨h1, h2, h3⟩ := sendDues_above c j x hx
        exact ⟨h1, by omega, h3⟩)); iexact Hlev
    iexact Hat
  iintro ⟨HO, Hat, -, Hpay⟩
  ihave Hp := (Entails.of_eq (rest_xfer m ρ c r d i)) $$ Hpay
  imod (Rounds.cell_close ER (Rd m ρ) (Set.mem_univ (K (c, some (r, d, i)))) (fun h => h) (R := 0 + 1) (duties_later m ρ _)) $$ [Hat] with Hz
  · isplitr; · iexact HI
    iexact Hat
  iapply Hk
  isplitl [Hp]; · iexact Hp
  isplitl [Hz]; · iexact Hz
  iexists _; iexact HO

end

end Cert.RingMatmul

end
-- ==== Proof.Moves.lean ====
/-
# The steps inside a device

A load of a block of rows (an own quarter, a landed slot), a load of `B`, a store of a product into a chunk, the copy of a chunk out
to the result, and the wait for that copy. Each is stated once, for every quarter, slot, chunk and block.
-/
module

public import proofs.«01_k».proof.Proof.Steps
public import Idealize.ShloMosaic.Lib.Pipeline.Value

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos credOf)

variable {F : FTy → Type} [FloatOps F]

local notation "𝕄" => MT nD τ sig ℕ (Elt F) ℕ UU ℕ

variable (m : (ℓ : Loc nD τ sig) → Buf (Elt F) ℓ) (ρ : Dev nD → PrngReg)

/-- Half a share of the staged rows, and all of the staged `B`. -/
def aHalf (c : Dev nD) : sProp 𝕄 := iprop((c : Thread nD τ).loc cc0_stg0_0 ↦{fullShare.left} aStg m ρ c)
@[inherit_doc aHalf] def bAll (c : Dev nD) : sProp 𝕄 := iprop((c : Thread nD τ).loc cc0_stg1_0 ↦{fullShare} bStg m ρ c)

omit [FloatOps F] in
/-- A device's own quarter is the block of that number. -/
theorem rowsOf_own (r : Fin 4) (c : Dev nD) : rowsOf m ρ (ownB r c) = (aM.access (rQ r)).read (Elt F) (aStg m ρ c) := by
  have h1 : (⟨(ownB r c).val % 4, Nat.mod_lt _ (by decide)⟩ : Fin 4) = r := by revert r c; decide
  have h2 : (⟨(ownB r c).val / 4, by have := (ownB r c).isLt; omega⟩ : Fin 4) = c := by revert r c; decide
  unfold rowsOf
  rw [h1, h2]; rfl

section
variable (c : Dev nD)

/-- A load of an own quarter reads its block. -/
theorem step_loadA (r : Fin 4) {off : Fin 2 → ℕ} (hoff : off = ![768 * r.val, 0]) {inb : ∀ a, off a + S768x1536.size a ≤ S3072x1536.size a}
    {hl : aM.view.LoadsAt (Rect.unit (s := S3072x1536) off S768x1536.size inb).toLoadRect}
    {α : Type} {Q : α → sProp 𝕄} {k : (S768x1536.Idx → Elt F .bf16) → Prog (TpuEff nD τ sig (Elt F) Λ₀ .tc) α} :
    aHalf m ρ c ⊢ iprop((aHalf m ρ c -∗ run c (k (rowsOf m ρ (ownB r c))) Q)
      -∗ run c (.op (.load aM (Rect.unit (s := S3072x1536) off S768x1536.size inb).toLoadRect hl) k) Q) := by
  subst hoff
  rw [rowsOf_own]
  unfold aHalf
  iintro H Hk
  iapply (wp_load_rect 𝒱₀ (c : Thread nD τ) none Set.univ (m := aM) (r := rQ r) (S := Finset.univ) (q := fullShare.left) (f := aStg m ρ c) (Finset.subset_univ _)) $$ [H]
  · iexact H
  iexact Hk

/-- A load of `B` reads all of it. -/
theorem step_loadB {hl : bM.view.LoadsAt (Rect.unit (s := S1536x3072) ![0, 0] S1536x3072.size inb_S1536x3072_S1536x3072_0_0).toLoadRect}
    {α : Type} {Q : α → sProp 𝕄} {k : (S1536x3072.Idx → Elt F .bf16) → Prog (TpuEff nD τ sig (Elt F) Λ₀ .tc) α} :
    bAll m ρ c ⊢ iprop((bAll m ρ c -∗ run c (k (bStg m ρ c)) Q)
      -∗ run c (.op (.load bM (Rect.unit (s := S1536x3072) ![0, 0] S1536x3072.size inb_S1536x3072_S1536x3072_0_0).toLoadRect hl) k) Q) := by
  have h : (bM.access (Rect.unit (s := S1536x3072) ![0, 0] S1536x3072.size inb_S1536x3072_S1536x3072_0_0)).read (Elt F) (bStg m ρ c) = bStg m ρ c := by
    funext x
    refine congrArg (bStg m ρ c) (funext fun a => Fin.ext ?_)
    fin_cases a <;> exact (Nat.zero_add _).trans (Nat.one_mul _)
  unfold bAll
  iintro H Hk
  iapply (wp_load_rect 𝒱₀ (c : Thread nD τ) none Set.univ (m := bM) (S := Finset.univ) (q := fullShare) (f := bStg m ρ c) (Finset.subset_univ _)) $$ [H]
  · iexact H
  rw [h]
  iexact Hk

/-- A load of a slot reads, as a one-slice block, the block that the slot holds. -/
theorem step_loadS (d : Bool) (i : Fin 6) (q : PosShare TreeShare) (X : S768x1536.Idx → Elt F .bf16)
    {buf : Memref sig .tc .vmem S3x1536x1536 .bf16} (hbuf : buf = ringM d) {off : Fin 3 → ℕ} (hoff : off = ![i.val / 2, 768 * (i.val % 2), 0])
    {inb : ∀ a, off a + S1x768x1536.size a ≤ S3x1536x1536.size a} {hl : buf.view.LoadsAt (Rect.unit (s := S3x1536x1536) off S1x768x1536.size inb).toLoadRect}
    {α : Type} {Q : α → sProp 𝕄} {k : (S1x768x1536.Idx → Elt F .bf16) → Prog (TpuEff nD τ sig (Elt F) Λ₀ .tc) α} :
    owns (c : Thread nD τ) (slotM d i) q X
      ⊢ iprop((∀ v, ⌜shapeCast S768x1536 v shapeCasts_S1x768x1536_S768x1536 = X⌝ -∗ owns (c : Thread nD τ) (slotM d i) q X -∗ run c (k v) Q)
        -∗ run c (.op (.load buf (Rect.unit (s := S3x1536x1536) off S1x768x1536.size inb).toLoadRect hl) k) Q) := by
  subst hbuf hoff
  unfold owns
  iintro ⟨%f, %hf, H⟩ Hk
  iapply (wp_load_rect 𝒱₀ (c : Thread nD τ) none Set.univ (m := ringM d) (r := rS i) (q := q) (f := f)
    (Finset.Subset.refl _)) $$ [H]
  · iapply (Entails.of_eq (by simp only [slotM, View.set_reshape, Memref.squeeze])) $$ H
  iintro H
  iapply Hk
  · ipureintro; exact hf
  iexists f
  isplitr; · ipureintro; exact hf
  iapply (Entails.of_eq (by simp only [slotM, View.set_reshape, Memref.squeeze])) $$ H

/-- A store of a whole chunk, given as a one-slice block, after a load of what was there. -/
theorem step_store (j : Fin 2) (X : S768x3072.Idx → Elt F .bf16) {off : Fin 3 → ℕ} (hoff : off = ![j.val, 0, 0])
    {inb inb' : ∀ a, off a + S1x768x3072.size a ≤ S2x768x3072.size a} {hl : kM.view.LoadsAt (Rect.unit (s := S2x768x3072) off S1x768x3072.size inb).toLoadRect}
    {w : S1x768x3072.Idx → Elt F .bf16} (hw : w = shapeCast S1x768x3072 X shapeCasts_S768x3072_S1x768x3072)
    {hx : (kM.access (Rect.unit (s := S2x768x3072) off S1x768x3072.size inb')).Stores Finset.univ} {hm}
    {α : Type} {Q : α → sProp 𝕄} {k : PUnit → Prog (TpuEff nD τ sig (Elt F) Λ₀ .tc) α} :
    idle c j ⊢ iprop((ready c j X -∗ run c (k ⟨⟩) Q)
        -∗ run c (.op (.load kM (Rect.unit (s := S2x768x3072) off S1x768x3072.size inb).toLoadRect hl)
            fun _ => .op (.store kM (Rect.unit (s := S2x768x3072) off S1x768x3072.size inb') w Finset.univ hx hm) k) Q) := by
  subst hoff hw
  have hset : (chunkM j).view.set = (kM.access (rK j)).set := by simp only [chunkM, View.set_reshape, Memref.squeeze]
  unfold idle ready some' owns
  iintro ⟨⟨%Y, %f, %hf, H⟩, Hz⟩ Hk
  rw [hset]
  iapply (wp_load_rect 𝒱₀ (c : Thread nD τ) none Set.univ (m := kM) (r := rK j) (q := fullShare) (f := f) (Finset.Subset.refl _)) $$ [H]
  · iexact H
  iintro H
  iapply (wp_store 𝒱₀ (c : Thread nD τ) none Set.univ (m := kM) (r := rK j) (Mk := Finset.univ) (f := f) (S := (kM.access (rK j)).set)
    (Finset.Subset.refl _)) $$ [H]
  · iexact H
  iintro H
  iapply Hk
  isplitl [H]
  · iexists _
    isplitr
    rotate_left
    · iexact H
    · ipureintro
      have h : (kM.access (rK j)).read (Elt F) ((kM.access (rK j)).write (Elt F) f (shapeCast S1x768x3072 X shapeCasts_S768x3072_S1x768x3072) Finset.univ)
          = shapeCast S1x768x3072 X shapeCasts_S768x3072_S1x768x3072 := View.read_write_univ _ _
      exact (congrArg (fun v => shapeCast S768x3072 v shapeCasts_S1x768x3072_S768x3072) h).trans (shapeCast_shapeCast _ _ _)
  iexact Hz

/-- The credit of a copy out of a chunk is the same for every row block. -/
theorem out_credit (b : Fin 16) : (outM b).view.dmaCredit = NK := NK_eq

/-- The copy of a chunk out to a row block of the result. -/
theorem step_copy (j : Fin 2) (b : Fin 16) (X : S768x3072.Idx → Elt F .bf16) {src : Memref sig .tc .vmem S768x3072 .bf16} (hs : src = chunkM j)
    {off : Fin 2 → ℕ} (hoff : off = ![768 * b.val, 0]) {inb : ∀ a, off a + S768x3072.size a ≤ S12288x3072.size a} {hr}
    {sm : DmaSem sig} (hsm : sm = copyS j) {hsrc : src.view.WordExact}
    {hdst : (oM.slice (Rect.unit (s := S12288x3072) off S768x3072.size inb) hr).view.WordExact}
    {hsem}
    {α : Type} {Q : α → sProp 𝕄} {k : PUnit → Prog (TpuEff nD τ sig (Elt F) Λ₀ .tc) α} :
    ready c j X ⊢ iprop(some' c (outM b) -∗ (flying c j b X -∗ run c (k ⟨⟩) Q)
        -∗ run c (.op (.enqueueDma src (.here (oM.slice (Rect.unit (s := S12288x3072) off S768x3072.size inb) hr)) (.dma sm) hsrc hdst hsem) k) Q) := by
  subst hs hoff hsm
  unfold ready some' owns
  iintro ⟨⟨%f, %hf, H⟩, Hz⟩ ⟨%Y, %g, %hg, Hd⟩ Hk
  iapply (Transfers.wp_dmaLocal EC 𝒱₀ (c : Thread nD τ) none (via := .same) (sm := .dma (copyS j)) (src := chunkM j) (dst := outM b) (fs := f) (fd := g) (q := fullShare) 0 NK (out_credit b) NK_pos (Finset.Subset.refl _)) $$ [H Hd Hz]
  · isplitl [H]; · iexact H
    isplitl [Hd]; · iexact Hd
    iexact Hz
  iintro HF
  iapply Hk
  unfold flying
  iapply (Transfers.Flight_mono EC (c : Thread nD τ) ?_) $$ HF
  unfold some' owns
  iintro ⟨Hd, H⟩
  isplitl [Hd]
  · iexists _
    isplitr
    rotate_left
    · iexact Hd
    · ipureintro; rw [View.read_write_univ, hf]
  iexists _; iexists f
  isplitr; · ipureintro; rfl
  iexact H

/-- The wait for a chunk's copy: the row block is written and the chunk is at rest. -/
theorem step_copied (j : Fin 2) (b : Fin 16) (X : S768x3072.Idx → Elt F .bf16) (n : ℕ) (K : Dev nD × CK → ℕ)
    {sm : DmaSem sig} (hsm : sm = copyS j) {sp : Space} {s' : Shape} {e' : EltTy} {src : Memref sig .tc sp s' e'} {dst : Memref sig .tc .hbm S768x3072 .bf16}
    (hN : dst.view.dmaCredit = NK) {hsrc : src.view.WordExact} {hdst : dst.view.WordExact}
    {α : Type} {Q : α → sProp 𝕄} {k : PUnit → Prog (TpuEff nD τ sig (Elt F) Λ₀ .tc) α} :
    ctx m ρ K ⊢ iprop(flying c j b X -∗ Ow c (sendDues c n)
        -∗ ((owns (c : Thread nD τ) (outM b) fullShare X ∗ idle c j ∗ Ow c (sendDues c n)) -∗ run c (k ⟨⟩) Q)
        -∗ run c (.op (.waitDma2 sm src dst hsrc hdst) k) Q) := by
  subst hsm
  unfold Ow flying
  iintro #Hctx HF ⟨%W, HO⟩ Hk
  ihave #Hlev := (ctx_lev m ρ K) $$ Hctx
  iapply (Transfers.wp_waitLocalO EC 𝒱₀ (c : Thread nD τ) none 0 hN) $$ [HF HO]
  · isplitl [HF]; · iexact HF
    isplitl [HO]; · iexact HO
    iapply (mayWait c _ 0 (by decide) (sendDues c n) (fun x hx => by
        obtain ⟨h1, h2, h3⟩ := sendDues_above c n x hx
        exact ⟨h1, by omega, h3⟩)); iexact Hlev
  iintro ⟨⟨Hd, Hs⟩, Hz, HO⟩
  iapply Hk
  isplitl [Hd]; · iexact Hd
  isplitl [Hs Hz]
  · unfold idle
    isplitl [Hs] <;> iassumption
  iexists _; iexact HO

end

end Cert.RingMatmul

end
-- ==== Proof.Buffers.lean ====
/-
# The buffers, cut and joined

The rectangles of each buffer are disjoint and cover it, so a buffer is held piece by piece: a landing buffer by its slots, the chunk
buffer by its two chunks, the result by its row blocks, the staged rows by quarters.
-/
module

public import proofs.«01_k».proof.Proof.Moves

@[expose] public section

noncomputable section

namespace Cert.RingMatmul

open Cert.KernelIdeal Cert.KernelIdeal.Gen
open Idealize.ShloMosaic
open Idealize.ShloMosaic.TcCoe
open Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (ρ : Dev nD → PrngReg)

/-! ## The rectangles -/

/-- A family of rectangles that are disjoint and cover their shape. -/
def Tiles {s : Shape} {T : Type} [Fintype T] (r : T → Rect s) : Prop :=
  (∀ t t', t ≠ t' → Disjoint (r t).set (r t').set) ∧ Finset.univ.biUnion (fun t => (r t).set) = Finset.univ

/-- A row of the staged rows lies in quarter `r` when it is one of the 768 rows from `768 r` on. -/
theorem mem_quarter {r : Fin 4} {x : S3072x1536.Idx} : x ∈ (rQ r).set ↔ 768 * r.val ≤ (x (0 : Fin 2)).val ∧ (x (0 : Fin 2)).val < 768 * r.val + 768 := by
  refine Rect.mem_set_unit.trans ⟨fun h => h 0, fun h a => ?_⟩
  have h1 := (x (1 : Fin 2)).isLt
  fin_cases a
  · exact h
  · exact ⟨Nat.zero_le _, by simpa using h1⟩
/-- The four quarters tile the staged rows. -/
theorem tiles_Q : Tiles rQ := by
  refine ⟨fun r r' h => Finset.disjoint_left.mpr fun x hx hx' => h (Fin.ext ?_), Finset.eq_univ_iff_forall.mpr fun x => ?_⟩
  · have h1 := mem_quarter.mp hx; have h2 := mem_quarter.mp hx'; omega
  · have h0 : (x (0 : Fin 2)).val < 3072 := (x (0 : Fin 2)).isLt
    refine Finset.mem_biUnion.mpr ⟨⟨(x (0 : Fin 2)).val / 768, by omega⟩, Finset.mem_univ _, mem_quarter.mpr ?_⟩
    dsimp only; omega
/-- A row of the result lies in row block `b` when it is one of the 768 rows from `768 b` on. -/
theorem mem_block {b : Fin 16} {x : S12288x3072.Idx} : x ∈ (rO b).set ↔ 768 * b.val ≤ (x (0 : Fin 2)).val ∧ (x (0 : Fin 2)).val < 768 * b.val + 768 := by
  refine Rect.mem_set_unit.trans ⟨fun h => h 0, fun h a => ?_⟩
  have h1 := (x (1 : Fin 2)).isLt
  fin_cases a
  · exact h
  · exact ⟨Nat.zero_le _, by simpa using h1⟩
/-- The sixteen row blocks tile the result. -/
theorem tiles_O : Tiles rO := by
  refine ⟨fun r r' h => Finset.disjoint_left.mpr fun x hx hx' => h (Fin.ext ?_), Finset.eq_univ_iff_forall.mpr fun x => ?_⟩
  · have h1 := mem_block.mp hx; have h2 := mem_block.mp hx'; omega
  · have h0 : (x (0 : Fin 2)).val < 12288 := (x (0 : Fin 2)).isLt
    refine Finset.mem_biUnion.mpr ⟨⟨(x (0 : Fin 2)).val / 768, by omega⟩, Finset.mem_univ _, mem_block.mpr ?_⟩
    dsimp only; omega
/-- An index of the chunk buffer lies in chunk `j` when its first coordinate is `j`. -/
theorem mem_chunk {j : Fin 2} {x : S2x768x3072.Idx} : x ∈ (rK j).set ↔ j.val = (x (0 : Fin 3)).val := by
  refine Rect.mem_set_unit.trans ⟨fun h => ?_, fun h a => ?_⟩
  · have h0 : j.val ≤ (x (0 : Fin 3)).val ∧ (x (0 : Fin 3)).val < j.val + 1 := h 0
    omega
  have h1 := (x (1 : Fin 3)).isLt
  have h2 := (x (2 : Fin 3)).isLt
  fin_cases a
  · exact ⟨h.le, Nat.lt_succ_of_le h.ge⟩
  · exact ⟨Nat.zero_le _, by simpa using h1⟩
  · exact ⟨Nat.zero_le _, by simpa using h2⟩
/-- The two chunks tile the chunk buffer. -/
theorem tiles_K : Tiles rK := by
  refine ⟨fun r r' h => Finset.disjoint_left.mpr fun x hx hx' => h (Fin.ext ?_), Finset.eq_univ_iff_forall.mpr fun x => ?_⟩
  · have h1 := mem_chunk.mp hx; have h2 := mem_chunk.mp hx'; omega
  · exact Finset.mem_biUnion.mpr ⟨x (0 : Fin 3), Finset.mem_univ _, mem_chunk.mpr rfl⟩
/-- An index of a landing buffer lies in slot `i` when it is of hop `i / 2` and of that hop's piece `i % 2`. -/
theorem mem_slot {i : Fin 6} {x : S3x1536x1536.Idx} :
    x ∈ (rS i).set ↔ i.val / 2 ≤ (x (0 : Fin 3)).val ∧ (x (0 : Fin 3)).val < i.val / 2 + 1 ∧ 768 * (i.val % 2) ≤ (x (1 : Fin 3)).val ∧ (x (1 : Fin 3)).val < 768 * (i.val % 2) + 768 := by
  refine Rect.mem_set_unit.trans ⟨fun h => ⟨(h 0).1, (h 0).2, (h 1).1, (h 1).2⟩, fun h a => ?_⟩
  have h2 := (x (2 : Fin 3)).isLt
  fin_cases a
  · exact ⟨h.1, h.2.1⟩
  · exact ⟨h.2.2.1, h.2.2.2⟩
  · exact ⟨Nat.zero_le _, by simpa using h2⟩
/-- The six slots tile a landing buffer. -/
theorem tiles_S : Tiles rS := by
  refine ⟨fun i i' h => Finset.disjoint_left.mpr fun x hx hx' => h (Fin.ext ?_), Finset.eq_univ_iff_forall.mpr fun x => ?_⟩
  · have h1 := mem_slot.mp hx; have h2 := mem_slot.mp hx'; omega
  · have h0 : (x (0 : Fin 3)).val < 3 := (x (0 : Fin 3)).isLt
    have h1 : (x (1 : Fin 3)).val < 1536 := (x (1 : Fin 3)).isLt
    refine Finset.mem_biUnion.mpr ⟨⟨2 * (x (0 : Fin 3)).val + (x (1 : Fin 3)).val / 768, by omega⟩, Finset.mem_univ _, mem_slot.mpr ?_⟩
    dsimp only; omega

/-! ## A buffer at any contents -/

section
variable (c : Dev nD) {s : Shape} {sp : Space}

/-- A piece held at any contents is its elements held at any values. -/
theorem some'_eq (v : Memref sig .tc sp s .bf16) :
    (some' c v : sProp 𝕄) = iprop(∃ f, v.view.loc (c : Thread nD τ) ↦[v.view.set]{fullShare} f) := by
  have h₁ : some' c v ⊢ (iprop(∃ f, v.view.loc (c : Thread nD τ) ↦[v.view.set]{fullShare} f) : sProp 𝕄) := by
    unfold some' owns; iintro ⟨%X, %f, -, H⟩; iexists f; iexact H
  have h₂ : (iprop(∃ f, v.view.loc (c : Thread nD τ) ↦[v.view.set]{fullShare} f) : sProp 𝕄) ⊢ some' c v := by
    unfold some' owns; iintro ⟨%f, H⟩; iexists _; iexists f; isplitr; · (ipureintro; rfl)
    iexact H
  exact BI.equiv_iff.mp ⟨h₁, h₂⟩

/-- Without its first axis of size one it is the same piece of memory. -/
theorem some'_squeeze (v : Memref sig .tc sp s .bf16) (s' : Shape) (h : s.Squeezes s') : (some' c (v.squeeze s' h) : sProp 𝕄) = some' c v := by
  rw [some'_eq, some'_eq]
  simp only [Memref.squeeze, View.set_reshape]

/-- A buffer at any contents is its tiles at any contents. -/
theorem some'_cut (v : Memref sig .tc sp s .bf16) {T : Type} [Fintype T] [DecidableEq T] (r : T → Rect s) (hr : ∀ t a, (r t).stride a = 1) (h : Tiles r) :
    (some' c v : sProp 𝕄) ⊢ bigSep Finset.univ fun t => some' c (v.slice (r t) (hr t)) := by
  rw [some'_eq]
  iintro ⟨%f, H⟩
  iapply ((Entails.of_eq (pointsTo_rects (c : Thread nD τ) v fullShare r hr h.1 h.2 f)).trans (BI.bigSep_mono fun t _ => exists_intro_trans (Ψ := fun X => owns (c : Thread nD τ) (v.slice (r t) (hr t)) fullShare X) _ Entails.rfl)) $$ H
include m in
@[inherit_doc some'_cut] theorem some'_join (v : Memref sig .tc sp s .bf16) {T : Type} [Fintype T] [DecidableEq T] (r : T → Rect s) (hr : ∀ t a, (r t).stride a = 1) (h : Tiles r) :
    bigSep Finset.univ (fun t => some' c (v.slice (r t) (hr t))) ⊢ (some' c v : sProp 𝕄) := by
  rw [some'_eq, BI.bigSep_congr fun t _ => some'_eq c (v.slice (r t) (hr t))]
  refine pointsTo_sub_blocks_join_exists (ℓ := v.view.loc (c : Thread nD τ)) (fun t => (v.view.slice (r t)).set) ?_ v.view.set ?_ (m _)
  · intro t t' hne
    rw [View.set_slice, View.set_slice]
    exact (Finset.disjoint_map _).mpr (h.1 t t' hne)
  · rw [show v.view.set = Finset.univ.map v.view.emb from rfl, ← h.2, Finset.map_eq_image, Finset.biUnion_image]
    refine Finset.biUnion_congr rfl fun t _ => ?_
    rw [View.set_slice, Finset.map_eq_image]
end

/-! ## The pieces of this kernel's buffers -/

variable (c : Dev nD)

/-- A landing buffer is its six slots. -/
theorem ring_cut (d : Bool) : (some' c (ringM d) : sProp 𝕄) ⊢ bigSep Finset.univ fun i => some' c (slotM d i) := by
  refine (some'_cut c (ringM d) rS (fun _ _ => rfl) tiles_S).trans (BI.bigSep_mono fun i _ => ?_)
  exact Entails.of_eq (some'_squeeze c ((ringM d).slice (rS i) fun _ => rfl) S768x1536 squeezes_S1x768x1536_S768x1536).symm
include m in
@[inherit_doc ring_cut] theorem ring_join (d : Bool) : (bigSep Finset.univ fun i => some' c (slotM d i)) ⊢ (some' c (ringM d) : sProp 𝕄) := by
  refine (BI.bigSep_mono fun i _ => ?_).trans (some'_join m c (ringM d) rS (fun _ _ => rfl) tiles_S)
  exact Entails.of_eq (some'_squeeze c ((ringM d).slice (rS i) fun _ => rfl) S768x1536 squeezes_S1x768x1536_S768x1536)
/-- The chunk buffer is its two chunks. -/
theorem chunk_cut : (some' c kM : sProp 𝕄) ⊢ bigSep Finset.univ fun j => some' c (chunkM j) := by
  refine (some'_cut c kM rK (fun _ _ => rfl) tiles_K).trans (BI.bigSep_mono fun i _ => ?_)
  exact Entails.of_eq (some'_squeeze c (kM.slice (rK i) fun _ => rfl) S768x3072 squeezes_S1x768x3072_S768x3072).symm
include m in
@[inherit_doc chunk_cut] theorem chunk_join : (bigSep Finset.univ fun j => some' c (chunkM j)) ⊢ (some' c kM : sProp 𝕄) := by
  refine (BI.bigSep_mono fun i _ => ?_).trans (some'_join m c kM rK (fun _ _ => rfl) tiles_K)
  exact Entails.of_eq (some'_squeeze c (kM.slice (rK i) fun _ => rfl) S768x3072 squeezes_S1x768x3072_S768x3072)
/-- The result, at any contents, is its row blocks in the order they are computed. -/
theorem out_cut : (some' c oM : sProp 𝕄) ⊢ bigSep Finset.univ fun t => some' c (outM (outB c t)) := by
  refine (some'_cut c oM rO (fun _ _ => rfl) tiles_O).trans (Entails.of_eq ?_)
  exact BI.bigSep_univ_equiv (Equiv.ofBijective _ (outB_bijective c)) fun b => some' c (outM b)

/-- The staged rows are half a share of them all, and the other half quarter by quarter. -/
theorem rows_cut : (((c : Thread nD τ).loc cc0_stg0_0 ↦{fullShare} aStg m ρ c) : sProp 𝕄)
    = iprop(aHalf m ρ c ∗ bigSep Finset.univ fun r => owns (c : Thread nD τ) (quarterM r) fullShare.right (rowsOf m ρ (ownB r c))) := by
  rw [BI.equiv_iff.mp ⟨(pointsTo_share (PosShare.mem_left_op_right fullShare)).1, (pointsTo_share (PosShare.mem_left_op_right fullShare)).2⟩]
  have h : (((c : Thread nD τ).loc cc0_stg0_0 ↦{fullShare.right} aStg m ρ c) : sProp 𝕄)
      = bigSep Finset.univ fun r => owns (c : Thread nD τ) (quarterM r) fullShare.right (rowsOf m ρ (ownB r c)) := by
    have h0 := pointsTo_rects (Ix := ℕ) (Name := ℕ) (U := UU) (Lvl := ℕ) (c : Thread nD τ) aM fullShare.right rQ (fun _ _ => rfl) tiles_Q.1 tiles_Q.2 (aStg m ρ c)
    rw [show aM.view.set = Finset.univ from View.set_whole _] at h0
    refine h0.trans (BI.bigSep_congr fun r _ => ?_)
    rw [rowsOf_own]; rfl
  rw [h]; rfl

/-! ## The result -/

/-- Where a row of the result lies within its block. -/
def inBlock (x : S12288x3072.Idx) : S768x3072.Idx
  | ⟨0, _⟩ => ⟨(x (0 : Fin 2)).val % 768, Nat.mod_lt _ (by decide)⟩
  | ⟨1, _⟩ => x (1 : Fin 2)
/-- The block of a row of the result. -/
def blockOf (x : S12288x3072.Idx) : Fin 16 :=
  ⟨(x (0 : Fin 2)).val / 768, by have h : (x (0 : Fin 2)).val < 12288 := (x (0 : Fin 2)).isLt; omega⟩
/-- The product of block `b` of the rows of `A` by device `c`'s `B`. -/
def blk (b : Fin 16) : S768x3072.Idx → Elt F .bf16 := prodOf (rowsOf m ρ b) (bStg m ρ c)
/-- The whole result on device `c`: every row block its product. -/
def outAll : (main_v1 : Ref sig .tc).ty.Contents (Elt F) := fun x => blk m ρ c (blockOf x) (inBlock x)

/-- An element of row block `b` is of block `b`, -/
theorem blockOf_emb (b : Fin 16) (j : (rO b).shape.Idx) : blockOf ((rO b).emb j) = b := by
  have hj : (j (0 : Fin 2)).val < 768 := (j (0 : Fin 2)).isLt
  have h : ((rO b).emb j (0 : Fin 2)).val = 768 * b.val + 1 * (j (0 : Fin 2)).val := rfl
  refine Fin.ext ?_
  show ((rO b).emb j (0 : Fin 2)).val / 768 = b.val
  omega
/-- and lies within it where it was taken from. -/
theorem inBlock_emb (b : Fin 16) (j : (rO b).shape.Idx) : inBlock ((rO b).emb j) = j := by
  have hj : (j (0 : Fin 2)).val < 768 := (j (0 : Fin 2)).isLt
  have h : ((rO b).emb j (0 : Fin 2)).val = 768 * b.val + 1 * (j (0 : Fin 2)).val := rfl
  have h' : ((rO b).emb j (1 : Fin 2)).val = 0 + 1 * (j (1 : Fin 2)).val := rfl
  funext a
  refine Fin.ext ?_
  fin_cases a
  · show ((rO b).emb j (0 : Fin 2)).val % 768 = (j (0 : Fin 2)).val
    omega
  · show ((rO b).emb j (1 : Fin 2)).val = (j (1 : Fin 2)).val
    omega

/-- Every block at its product, in the order they are computed, is the whole result. -/
theorem out_join : (bigSep Finset.univ fun t => owns (c : Thread nD τ) (outM (outB c t)) fullShare (blk m ρ c (outB c t)))
    = (((c : Thread nD τ).loc main_v1 ↦{fullShare} outAll m ρ c) : sProp 𝕄) := by
  refine (BI.bigSep_univ_equiv (Equiv.ofBijective _ (outB_bijective c)) fun b => owns (c : Thread nD τ) (outM b) fullShare (blk m ρ c b)).symm.trans ?_
  have h0 := pointsTo_rects (Ix := ℕ) (Name := ℕ) (U := UU) (Lvl := ℕ) (c : Thread nD τ) oM fullShare rO (fun _ _ => rfl) tiles_O.1 tiles_O.2 (outAll m ρ c)
  rw [show oM.view.set = Finset.univ from View.set_whole _] at h0
  refine (h0.trans (BI.bigSep_congr fun b _ => ?_)).symm
  refine congrArg (owns (c : Thread nD τ) (outM b) fullShare) (funext fun j => ?_)
  show blk m ρ c (blockOf ((rO b).emb j)) (inBlock ((rO b).emb j)) = blk m ρ c b j
  rw [blockOf_emb, inBlock_emb]

end Cert.RingMatmul

end
-- ==== Proof.Phases.lean ====
/-
# The phases of a hop

The kernel's body repeats three phases for its transfers: both waits at one kind of end of transfer `i`, both sends of transfer `i`,
and one product, which loads a landed slot, waits for the chunk's previous copy, loads `B`, stores the product into the chunk and
starts its copy out to the result. Each is stated here once.
-/
module

public import proofs.«01_k».proof.Proof.Buffers

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (ρ : Dev nD → PrngReg)

/-- The same for both directions. -/
def both (P : Bool → sProp 𝕄) : sProp 𝕄 := iprop(P true ∗ P false)
/-- The same for both directions, taken apart. -/
theorem both_apart (P : Bool → sProp 𝕄) : both P ⊢ iprop(P true ∗ P false) := Entails.rfl

/-! ## The products -/

/-- The form in which the body stores a product, of rows as loaded or of rows as landed. -/
theorem stored_own (a : S768x1536.Idx → Elt F .bf16) (B : S1536x3072.Idx → Elt F .bf16) :
    shapeCast S1x768x3072 (truncf .bf16 (matmul dot_S768x1536_S1536x3072_S768x3072_1_0_0_1_n_n none (shapeCast S768x1536 a shapeCasts_S768x1536_S768x1536)
      (shapeCast S1536x3072 B shapeCasts_S1536x3072_S1536x3072) (constant S768x3072 .f32 0x00000000#32)) bitsLt_bf16_f32) shapeCasts_S768x3072_S1x768x3072
      = shapeCast S1x768x3072 (prodOf a B) shapeCasts_S768x3072_S1x768x3072 := by
  rw [shapeCast_self, shapeCast_self]; rfl
@[inherit_doc stored_own] theorem stored_landed (v : S1x768x1536.Idx → Elt F .bf16) (B : S1536x3072.Idx → Elt F .bf16) :
    shapeCast S1x768x3072 (truncf .bf16 (matmul dot_S768x1536_S1536x3072_S768x3072_1_0_0_1_n_n none (shapeCast S768x1536 v shapeCasts_S1x768x1536_S768x1536)
      (shapeCast S1536x3072 B shapeCasts_S1536x3072_S1536x3072) (constant S768x3072 .f32 0x00000000#32)) bitsLt_bf16_f32) shapeCasts_S768x3072_S1x768x3072
      = shapeCast S1x768x3072 (prodOf (shapeCast S768x1536 v shapeCasts_S1x768x1536_S768x1536) B) shapeCasts_S768x3072_S1x768x3072 := by
  rw [shapeCast_self]; rfl

/-! ## The offsets in the result -/

/-- The offsets that the body computes in the result: of the own quarters, of the blocks landed clockwise and counterclockwise. -/
theorem off_own : ∀ (c : Dev nD) (r : Fin 4), k0_off1 c (BitVec.ofNat 32 (768 * r.val)) = ![768 * (ownB r c).val, 0] := by decide +kernel
@[inherit_doc off_own] theorem off_cw : ∀ (c : Dev nD) (i : Fin 6), k0_off2 c (BitVec.ofNat 32 (i.val / 2)) (BitVec.ofNat 32 (768 * (i.val % 2))) = ![768 * (landB true i c).val, 0] := by
  decide +kernel
@[inherit_doc off_own] theorem off_ccw : ∀ (c : Dev nD) (i : Fin 6), k0_off3 c (BitVec.ofNat 32 (i.val / 2)) (BitVec.ofNat 32 (768 * (i.val % 2))) = ![768 * (landB false i c).val, 0] := by
  decide +kernel

section
variable (c : Dev nD) (K : Dev nD × CK → ℕ)

/-- The buffer that a wait names: the slot at the receiving end of a transfer, the source at its sending end. -/
def endM (r d : Bool) (i : Fin 6) : Memref sig .tc .vmem S768x1536 .bf16 := if r then slotM d i else srcM d i
/-- The credit of a transfer is the same at both ends, for every direction and number. -/
theorem end_credit (r d : Bool) (i : Fin 6) : (endM r d i).view.dmaCredit = N := by
  cases r
  · cases d <;> fin_cases i <;> exact N_eq
  · cases d <;> exact N_eq

/-- Both waits at the receiving ends (`r = true`) or at the sending ends of transfer `i`. -/
theorem wait_both (r : Bool) (i : Fin 6) (j : ℕ) (hj : kidx (some (r, true, i)) < 2 + j ∧ kidx (some (r, true, i)) < 8)
    {sm sm' : DmaSem sig} (hsm : sm = xferS r true i) (hsm' : sm' = xferS r false i)
    {sp sp' : Space} {s s' : Shape} {e e' : EltTy} {src : Memref sig .tc sp s e} {src' : Memref sig .tc sp' s' e'} {dst dst' : Memref sig .tc .vmem S768x1536 .bf16}
    (hd : dst = endM r true i) (hd' : dst' = endM r false i)
    {hsrc : src.view.WordExact} {hdst : dst.view.WordExact} {hsrc' : src'.view.WordExact} {hdst' : dst'.view.WordExact}
    {α : Type} {Q : α → sProp 𝕄} {k : PUnit → Prog (TpuEff nD τ sig (Elt F) Λ₀ .tc) α} :
    ctx m ρ K ⊢ iprop((both fun d => units c r d i) -∗ (both fun d => at₀ c r d i) -∗ Ow c (sendDues c j)
      -∗ (((both fun d => xferPay m ρ c r d i) ∗ (both fun d => zero c r d i) ∗ Ow c (sendDues c j)) -∗ run c (k ⟨⟩) Q)
      -∗ run c (.op (.waitDma2 sm src dst hsrc hdst) fun _ => .op (.waitDma2 sm' src' dst' hsrc' hdst') k) Q) := by
  subst hd hd'
  iintro #Hctx Hu Ha Ho Hk
  unfold both
  icases Hu with ⟨Hu1, Hu2⟩
  icases Ha with ⟨Ha1, Ha2⟩
  iapply (step_wait m ρ K c r true i j hj hsm (end_credit r true i)) $$ Hctx Hu1 Ha1 Ho
  iintro ⟨Hp1, Hz1, Ho⟩
  iapply (step_wait m ρ K c r false i j (by cases r <;> exact hj) hsm' (end_credit r false i)) $$ Hctx Hu2 Ha2 Ho
  iintro ⟨Hp2, Hz2, Ho⟩
  iapply Hk
  isplitl [Hp1 Hp2]; · isplitl [Hp1] <;> iassumption
  isplitl [Hz1 Hz2]; · isplitl [Hz1] <;> iassumption
  iexact Ho

/-- Both sends of transfer `i`. -/
theorem send_both (i : Fin 6) (j j' : ℕ) (hj : j = i.val ∧ j' = i.val + 1) {n n' : Dev nD} (hn : n = nxt c) (hn' : n' = prv c) {src dst src' dst' : Memref sig .tc .vmem S768x1536 .bf16}
    (hs : src = srcM true i) (hd : dst = slotM true i) (hs' : src' = srcM false i) (hd' : dst' = slotM false i)
    {sS sR sS' sR' : DmaSem sig} (hsS : sS = xferS false true i) (hsR : sR = xferS true true i) (hsS' : sS' = xferS false false i) (hsR' : sR' = xferS true false i)
    {hsc : dst.view.ref.isScScratch = false} {hsrc : src.view.WordExact} {hdst : dst.view.WordExact}
    {hsem : DmaTarget.Typed .vmem (.dma sR) (.remote (Dev.tc n : Thread nD τ) dst (.dma sS) hsc)}
    {hsc' : dst'.view.ref.isScScratch = false} {hsrc' : src'.view.WordExact} {hdst' : dst'.view.WordExact}
    {hsem' : DmaTarget.Typed .vmem (.dma sR') (.remote (Dev.tc n' : Thread nD τ) dst' (.dma sS') hsc')}
    {α : Type} {Q : α → sProp 𝕄} {k : PUnit → Prog (TpuEff nD τ sig (Elt F) Λ₀ .tc) α} :
    ctx m ρ K ⊢ iprop((both fun d => sendToks c d i) -∗ (both fun d => some' (peer d c) (slotM d i))
      -∗ (both fun d => owns (c : Thread nD τ) (srcM d i) fullShare.right (rowsOf m ρ (srcB d i c))) -∗ Ow c (sendDues c j)
      -∗ (((both fun d => units c false d i) ∗ Ow c (sendDues c j')) -∗ run c (k ⟨⟩) Q)
      -∗ run c (.op (.enqueueDma src (.remote (Dev.tc n : Thread nD τ) dst (.dma sS) hsc) (.dma sR) hsrc hdst hsem) fun _ =>
          .op (.enqueueDma src' (.remote (Dev.tc n' : Thread nD τ) dst' (.dma sS') hsc') (.dma sR') hsrc' hdst' hsem') k) Q) := by
  obtain ⟨rfl, rfl⟩ := hj
  iintro #Hctx Ht Hd Hs Ho Hk
  unfold both
  icases Ht with ⟨Ht1, Ht2⟩
  icases Hd with ⟨Hd1, Hd2⟩
  icases Hs with ⟨Hs1, Hs2⟩
  iapply (step_send m ρ K c true i hn hs hd hsS hsR _ _ (sendDues_lt c i)) $$ Hctx Ht1 Hd1 Hs1 Ho
  iintro ⟨Hu1, Ho⟩
  iapply (step_send m ρ K c false i hn' hs' hd' hsS' hsR' _ _ rfl) $$ Hctx Ht2 Hd2 Hs2 Ho
  iintro ⟨Hu2, Ho⟩
  iapply Hk
  isplitl [Hu1 Hu2]; · isplitl [Hu1] <;> iassumption
  iexact Ho

/-- The product of the block that landed with transfer `i` of direction `d`, through chunk `j`, whose previous copy went to block `b`. -/
theorem product (d : Bool) (i : Fin 6) (j : Fin 2) (b : Fin 16) (Y : S768x3072.Idx → Elt F .bf16) (n : ℕ) (q : PosShare TreeShare)
    {buf : Memref sig .tc .vmem S3x1536x1536 .bf16} (hbuf : buf = ringM d) {offS : Fin 3 → ℕ} (hoffS : offS = ![i.val / 2, 768 * (i.val % 2), 0])
    {inbS : ∀ a, offS a + S1x768x1536.size a ≤ S3x1536x1536.size a} {hlS : buf.view.LoadsAt (Rect.unit (s := S3x1536x1536) offS S1x768x1536.size inbS).toLoadRect}
    {sm sm' : DmaSem sig} (hsm : sm = copyS j) (hsm' : sm' = copyS j) {sp : Space} {s' : Shape} {e' : EltTy} {srcW : Memref sig .tc sp s' e'}
    {offW : Fin 2 → ℕ} {inbW : ∀ a, offW a + S768x3072.size a ≤ S12288x3072.size a} {hrW} {hsrcW : srcW.view.WordExact}
    {hdstW : (oM.slice (Rect.unit (s := S12288x3072) offW S768x3072.size inbW) hrW).view.WordExact}
    {hlB : bM.view.LoadsAt (Rect.unit (s := S1536x3072) ![0, 0] S1536x3072.size inb_S1536x3072_S1536x3072_0_0).toLoadRect}
    {offK : Fin 3 → ℕ} (hoffK : offK = ![j.val, 0, 0]) {inbK inbK' : ∀ a, offK a + S1x768x3072.size a ≤ S2x768x3072.size a}
    {hlK : kM.view.LoadsAt (Rect.unit (s := S2x768x3072) offK S1x768x3072.size inbK).toLoadRect}
    {w : (S1x768x1536.Idx → Elt F .bf16) → (S1536x3072.Idx → Elt F .bf16) → S1x768x3072.Idx → Elt F .bf16}
    (hw : ∀ v B, w v B = shapeCast S1x768x3072 (prodOf (shapeCast S768x1536 v shapeCasts_S1x768x1536_S768x1536) B) shapeCasts_S768x3072_S1x768x3072)
    {hx : (kM.access (Rect.unit (s := S2x768x3072) offK S1x768x3072.size inbK')).Stores Finset.univ} {hm}
    {src : Memref sig .tc .vmem S768x3072 .bf16} (hs : src = chunkM j)
    {offO : Fin 2 → ℕ} (hoffO : offO = ![768 * (landB d i c).val, 0]) {inbO : ∀ a, offO a + S768x3072.size a ≤ S12288x3072.size a} {hr}
    {hsrc : src.view.WordExact} {hdst : (oM.slice (Rect.unit (s := S12288x3072) offO S768x3072.size inbO) hr).view.WordExact} {hsem}
    {α : Type} {Q : α → sProp 𝕄} {k : PUnit → Prog (TpuEff nD τ sig (Elt F) Λ₀ .tc) α} :
    ctx m ρ K ⊢ iprop(owns (c : Thread nD τ) (slotM d i) q (rowsOf m ρ (landB d i c)) -∗ bAll m ρ c -∗ flying c j b Y -∗ some' c (outM (landB d i c)) -∗ Ow c (sendDues c n)
      -∗ ((owns (c : Thread nD τ) (slotM d i) q (rowsOf m ρ (landB d i c)) ∗ bAll m ρ c ∗ owns (c : Thread nD τ) (outM b) fullShare Y
          ∗ flying c j (landB d i c) (blk m ρ c (landB d i c)) ∗ Ow c (sendDues c n)) -∗ run c (k ⟨⟩) Q)
      -∗ run c (.op (.load buf (Rect.unit (s := S3x1536x1536) offS S1x768x1536.size inbS).toLoadRect hlS) fun v =>
          .op (.waitDma2 sm srcW (oM.slice (Rect.unit (s := S12288x3072) offW S768x3072.size inbW) hrW) hsrcW hdstW) fun _ =>
          .op (.load bM (Rect.unit (s := S1536x3072) ![0, 0] S1536x3072.size inb_S1536x3072_S1536x3072_0_0).toLoadRect hlB) fun B =>
          .op (.load kM (Rect.unit (s := S2x768x3072) offK S1x768x3072.size inbK).toLoadRect hlK) fun _ =>
          .op (.store kM (Rect.unit (s := S2x768x3072) offK S1x768x3072.size inbK') (w v B) Finset.univ hx hm) fun _ =>
          .op (.enqueueDma src (.here (oM.slice (Rect.unit (s := S12288x3072) offO S768x3072.size inbO) hr)) (.dma sm') hsrc hdst hsem) k) Q) := by
  iintro #Hctx Hs HB HF Hd Ho Hk
  iapply (step_loadS c d i q (rowsOf m ρ (landB d i c)) hbuf hoffS) $$ Hs
  iintro %v %hv Hs
  iapply (step_copied m ρ c j b Y n K hsm (dst := oM.slice (Rect.unit (s := S12288x3072) offW S768x3072.size inbW) hrW) NK_eq) $$ Hctx HF Ho
  iintro ⟨Hdone, HI, Ho⟩
  iapply (step_loadB m ρ c) $$ HB
  iintro HB
  iapply (step_store c j (blk m ρ c (landB d i c)) hoffK ((hw v (bStg m ρ c)).trans (by rw [hv]; rfl))) $$ HI
  iintro HR
  iapply (step_copy c j (landB d i c) _ hs hoffO hsm') $$ HR Hd
  iintro HF
  iapply Hk
  isplitl [Hs]; · iexact Hs
  isplitl [HB]; · iexact HB
  isplitl [Hdone]; · iexact Hdone
  isplitl [HF]; · iexact HF
  iexact Ho

/-- The product of own quarter `r` through chunk `j` at rest. -/
theorem product_own (r : Fin 4) (j : Fin 2) {offA : Fin 2 → ℕ} (hoffA : offA = ![768 * r.val, 0]) {inbA : ∀ a, offA a + S768x1536.size a ≤ S3072x1536.size a}
    {hlA : aM.view.LoadsAt (Rect.unit (s := S3072x1536) offA S768x1536.size inbA).toLoadRect}
    {hlB : bM.view.LoadsAt (Rect.unit (s := S1536x3072) ![0, 0] S1536x3072.size inb_S1536x3072_S1536x3072_0_0).toLoadRect}
    {offK : Fin 3 → ℕ} (hoffK : offK = ![j.val, 0, 0]) {inbK inbK' : ∀ a, offK a + S1x768x3072.size a ≤ S2x768x3072.size a}
    {hlK : kM.view.LoadsAt (Rect.unit (s := S2x768x3072) offK S1x768x3072.size inbK).toLoadRect}
    {w : (S768x1536.Idx → Elt F .bf16) → (S1536x3072.Idx → Elt F .bf16) → S1x768x3072.Idx → Elt F .bf16}
    (hw : ∀ a B, w a B = shapeCast S1x768x3072 (prodOf a B) shapeCasts_S768x3072_S1x768x3072)
    {hx : (kM.access (Rect.unit (s := S2x768x3072) offK S1x768x3072.size inbK')).Stores Finset.univ} {hm}
    {sm' : DmaSem sig} (hsm' : sm' = copyS j) {src : Memref sig .tc .vmem S768x3072 .bf16} (hs : src = chunkM j)
    {offO : Fin 2 → ℕ} (hoffO : offO = ![768 * (ownB r c).val, 0]) {inbO : ∀ a, offO a + S768x3072.size a ≤ S12288x3072.size a} {hr}
    {hsrc : src.view.WordExact} {hdst : (oM.slice (Rect.unit (s := S12288x3072) offO S768x3072.size inbO) hr).view.WordExact} {hsem}
    {α : Type} {Q : α → sProp 𝕄} {k : PUnit → Prog (TpuEff nD τ sig (Elt F) Λ₀ .tc) α} :
    aHalf m ρ c ⊢ iprop(bAll m ρ c -∗ idle c j -∗ some' c (outM (ownB r c))
      -∗ ((aHalf m ρ c ∗ bAll m ρ c ∗ flying c j (ownB r c) (blk m ρ c (ownB r c))) -∗ run c (k ⟨⟩) Q)
      -∗ run c (.op (.load aM (Rect.unit (s := S3072x1536) offA S768x1536.size inbA).toLoadRect hlA) fun a =>
          .op (.load bM (Rect.unit (s := S1536x3072) ![0, 0] S1536x3072.size inb_S1536x3072_S1536x3072_0_0).toLoadRect hlB) fun B =>
          .op (.load kM (Rect.unit (s := S2x768x3072) offK S1x768x3072.size inbK).toLoadRect hlK) fun _ =>
          .op (.store kM (Rect.unit (s := S2x768x3072) offK S1x768x3072.size inbK') (w a B) Finset.univ hx hm) fun _ =>
          .op (.enqueueDma src (.here (oM.slice (Rect.unit (s := S12288x3072) offO S768x3072.size inbO) hr)) (.dma sm') hsrc hdst hsem) k) Q) := by
  iintro HA HB HI Hd Hk
  iapply (step_loadA m ρ c r hoffA) $$ HA
  iintro HA
  iapply (step_loadB m ρ c) $$ HB
  iintro HB
  iapply (step_store c j (blk m ρ c (ownB r c)) hoffK (hw _ _)) $$ HI
  iintro HR
  iapply (step_copy c j (ownB r c) _ hs hoffO hsm') $$ HR Hd
  iintro HF
  iapply Hk
  isplitl [HA]; · iexact HA
  isplitl [HB]; · iexact HB
  iexact HF

/-- The product of own quarter `r` through chunk `j`, whose previous copy went to block `b`. -/
theorem product_own' (r : Fin 4) (j : Fin 2) (b : Fin 16) (Y : S768x3072.Idx → Elt F .bf16) (n : ℕ)
    {offA : Fin 2 → ℕ} (hoffA : offA = ![768 * r.val, 0]) {inbA : ∀ a, offA a + S768x1536.size a ≤ S3072x1536.size a}
    {hlA : aM.view.LoadsAt (Rect.unit (s := S3072x1536) offA S768x1536.size inbA).toLoadRect}
    {sm sm' : DmaSem sig} (hsm : sm = copyS j) (hsm' : sm' = copyS j) {sp : Space} {s' : Shape} {e' : EltTy} {srcW : Memref sig .tc sp s' e'}
    {offW : Fin 2 → ℕ} {inbW : ∀ a, offW a + S768x3072.size a ≤ S12288x3072.size a} {hrW} {hsrcW : srcW.view.WordExact}
    {hdstW : (oM.slice (Rect.unit (s := S12288x3072) offW S768x3072.size inbW) hrW).view.WordExact}
    {hlB : bM.view.LoadsAt (Rect.unit (s := S1536x3072) ![0, 0] S1536x3072.size inb_S1536x3072_S1536x3072_0_0).toLoadRect}
    {offK : Fin 3 → ℕ} (hoffK : offK = ![j.val, 0, 0]) {inbK inbK' : ∀ a, offK a + S1x768x3072.size a ≤ S2x768x3072.size a}
    {hlK : kM.view.LoadsAt (Rect.unit (s := S2x768x3072) offK S1x768x3072.size inbK).toLoadRect}
    {w : (S768x1536.Idx → Elt F .bf16) → (S1536x3072.Idx → Elt F .bf16) → S1x768x3072.Idx → Elt F .bf16}
    (hw : ∀ a B, w a B = shapeCast S1x768x3072 (prodOf a B) shapeCasts_S768x3072_S1x768x3072)
    {hx : (kM.access (Rect.unit (s := S2x768x3072) offK S1x768x3072.size inbK')).Stores Finset.univ} {hm}
    {src : Memref sig .tc .vmem S768x3072 .bf16} (hs : src = chunkM j)
    {offO : Fin 2 → ℕ} (hoffO : offO = ![768 * (ownB r c).val, 0]) {inbO : ∀ a, offO a + S768x3072.size a ≤ S12288x3072.size a} {hr}
    {hsrc : src.view.WordExact} {hdst : (oM.slice (Rect.unit (s := S12288x3072) offO S768x3072.size inbO) hr).view.WordExact} {hsem}
    {α : Type} {Q : α → sProp 𝕄} {k : PUnit → Prog (TpuEff nD τ sig (Elt F) Λ₀ .tc) α} :
    ctx m ρ K ⊢ iprop(aHalf m ρ c -∗ bAll m ρ c -∗ flying c j b Y -∗ some' c (outM (ownB r c)) -∗ Ow c (sendDues c n)
      -∗ ((aHalf m ρ c ∗ bAll m ρ c ∗ owns (c : Thread nD τ) (outM b) fullShare Y ∗ flying c j (ownB r c) (blk m ρ c (ownB r c)) ∗ Ow c (sendDues c n)) -∗ run c (k ⟨⟩) Q)
      -∗ run c (.op (.load aM (Rect.unit (s := S3072x1536) offA S768x1536.size inbA).toLoadRect hlA) fun a =>
          .op (.waitDma2 sm srcW (oM.slice (Rect.unit (s := S12288x3072) offW S768x3072.size inbW) hrW) hsrcW hdstW) fun _ =>
          .op (.load bM (Rect.unit (s := S1536x3072) ![0, 0] S1536x3072.size inb_S1536x3072_S1536x3072_0_0).toLoadRect hlB) fun B =>
          .op (.load kM (Rect.unit (s := S2x768x3072) offK S1x768x3072.size inbK).toLoadRect hlK) fun _ =>
          .op (.store kM (Rect.unit (s := S2x768x3072) offK S1x768x3072.size inbK') (w a B) Finset.univ hx hm) fun _ =>
          .op (.enqueueDma src (.here (oM.slice (Rect.unit (s := S12288x3072) offO S768x3072.size inbO) hr)) (.dma sm') hsrc hdst hsem) k) Q) := by
  iintro #Hctx HA HB HF Hd Ho Hk
  iapply (step_loadA m ρ c r hoffA) $$ HA
  iintro HA
  iapply (step_copied m ρ c j b Y n K hsm (dst := oM.slice (Rect.unit (s := S12288x3072) offW S768x3072.size inbW) hrW) NK_eq) $$ Hctx HF Ho
  iintro ⟨Hdone, HI, Ho⟩
  iapply (step_loadB m ρ c) $$ HB
  iintro HB
  iapply (step_store c j (blk m ρ c (ownB r c)) hoffK (hw _ _)) $$ HI
  iintro HR
  iapply (step_copy c j (ownB r c) _ hs hoffO hsm') $$ HR Hd
  iintro HF
  iapply Hk
  isplitl [HA]; · iexact HA
  isplitl [HB]; · iexact HB
  isplitl [Hdone]; · iexact Hdone
  isplitl [HF]; · iexact HF
  iexact Ho

end

end Cert.RingMatmul

end
-- ==== Proof.Pieces.lean ====
/-
# What the body starts from and ends with

The resources of one device at the start of its body and at the end, and the lemmas that take the buffers apart into the pieces the
steps use, and put them together again.
-/
module

public import proofs.«01_k».proof.Proof.Phases

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## Families by number -/

/-- A family over six, four or two numbers, member by member. -/
theorem six (P : Fin 6 → sProp 𝕄) : bigSep Finset.univ P = iprop(P 0 ∗ P 1 ∗ P 2 ∗ P 3 ∗ P 4 ∗ P 5) :=
  bigSep_univ_eq_bigSepL [0, 1, 2, 3, 4, 5] (by decide) (by decide) P
@[inherit_doc six] theorem four (P : Fin 4 → sProp 𝕄) : bigSep Finset.univ P = iprop(P 0 ∗ P 1 ∗ P 2 ∗ P 3) :=
  bigSep_univ_eq_bigSepL [0, 1, 2, 3] (by decide) (by decide) P
@[inherit_doc six] theorem two (P : Fin 2 → sProp 𝕄) : bigSep Finset.univ P = iprop(P 0 ∗ P 1) :=
  bigSep_univ_eq_bigSepL [0, 1] (by decide) (by decide) P
/-- The same of every row block, in the order they are computed. -/
def blocks (P : Fin 16 → sProp 𝕄) : sProp 𝕄 :=
  iprop(P (ownB 0 c) ∗ P (ownB 1 c) ∗ P (ownB 2 c) ∗ P (ownB 3 c)
    ∗ P (landB true 0 c) ∗ P (landB false 0 c) ∗ P (landB true 1 c) ∗ P (landB false 1 c)
    ∗ P (landB true 2 c) ∗ P (landB false 2 c) ∗ P (landB true 3 c) ∗ P (landB false 3 c)
    ∗ P (landB true 4 c) ∗ P (landB false 4 c) ∗ P (landB true 5 c) ∗ P (landB false 5 c))
/-- All sixteen row blocks are those blocks. -/
theorem blocks_eq (P : Fin 16 → sProp 𝕄) : (bigSep Finset.univ fun t => P (outB c t)) = blocks c P :=
  bigSep_univ_eq_bigSepL [0, 1, 2, 3, 4, 5, 6, 7, 8, 9, 10, 11, 12, 13, 14, 15] (by decide) (by decide) fun t => P (outB c t)

/-! ## Start and end -/

/-- The sources of both sends of transfer `i`, half a share. -/
abbrev srcs (i : Fin 6) : sProp 𝕄 := both fun d => owns (c : Thread nD τ) (srcM d i) fullShare.right (rowsOf m ρ (srcB d i c))
/-- Both slots of transfer `i` of `c`, at a share. -/
abbrev slots (q : PosShare TreeShare) (i : Fin 6) : sProp 𝕄 := both fun d => owns (c : Thread nD τ) (slotM d i) q (rowsOf m ρ (landB d i c))

/-- The buffers the body holds besides the staged ones. -/
def scratch : sProp 𝕄 := iprop((both fun d => some' c (ringM d)) ∗ some' c kM)

/-- The rights of a device under the protocol, at the start. -/
def start : sProp 𝕄 :=
  iprop((both fun d => dutyTok ER (barCell (fro d c)) 0 d) ∗ cred (tallyAt (barCell c) 1 2) ∗ atPos ER (barCell c) 0 ∅ 0
    ∗ (bigSep Finset.univ fun i => both fun d => sendToks c d i) ∗ (bigSep Finset.univ fun i => both fun d => units c true d i)
    ∗ (bigSep Finset.univ fun i => both fun d => at₀ c true d i) ∗ (bigSep Finset.univ fun i => both fun d => at₀ c false d i)
    ∗ (bigSep Finset.univ fun j : Fin 2 => semVal ((c : Thread nD τ), SemLoc.dma (copyS j)) 0))
/-- Its semaphores at the end: all at zero. -/
def zeros : sProp 𝕄 :=
  iprop((bigSep Finset.univ fun i => both fun d => zero c true d i) ∗ (bigSep Finset.univ fun i => both fun d => zero c false d i)
    ∗ (bigSep Finset.univ fun j : Fin 2 => semVal ((c : Thread nD τ), SemLoc.dma (copyS j)) 0))

/-! ## Taking apart -/

/-- The staged rows: a half share to load from, and the sources of the first hop's sends. -/
theorem rows_apart : (((c : Thread nD τ).loc cc0_stg0_0 ↦{fullShare} aStg m ρ c) : sProp 𝕄)
    ⊢ iprop(aHalf m ρ c ∗ srcs m ρ c 0 ∗ srcs m ρ c 1) := by
  rw [rows_cut, four]
  unfold srcs both
  iintro ⟨HA, H0, H1, H2, H3⟩
  isplitl [HA]; · iexact HA
  isplitl [H0 H2]
  · isplitl [H0]; · iexact H0
    iexact H2
  isplitl [H1]; · iexact H1
  iexact H3
/-- Those together are the staged rows again. -/
theorem rows_back : iprop(aHalf m ρ c ∗ srcs m ρ c 0 ∗ srcs m ρ c 1)
    ⊢ (((c : Thread nD τ).loc cc0_stg0_0 ↦{fullShare} aStg m ρ c) : sProp 𝕄) := by
  rw [rows_cut, four]
  unfold srcs both
  iintro ⟨HA, ⟨H0, H2⟩, H1, H3⟩
  isplitl [HA]; · iexact HA
  isplitl [H0]; · iexact H0
  isplitl [H1]; · iexact H1
  isplitl [H2]; · iexact H2
  iexact H3
/-- The result, row block by row block. -/
theorem out_apart : (some' c oM : sProp 𝕄) ⊢ blocks c fun b => some' c (outM b) :=
  (out_cut c).trans (Entails.of_eq (blocks_eq c fun b => some' c (outM b)))
/-- Every row block at its product is the result at the computed array. -/
theorem out_back : (blocks c fun b => owns (c : Thread nD τ) (outM b) fullShare (blk m ρ c b))
    ⊢ (((c : Thread nD τ).loc main_v1 ↦{fullShare} outAll m ρ c) : sProp 𝕄) :=
  (Entails.of_eq (blocks_eq c fun b => owns (c : Thread nD τ) (outM b) fullShare (blk m ρ c b)).symm).trans (Entails.of_eq (out_join m ρ c))
/-- The neighbours' landing buffers, slot by slot. -/
theorem peers_apart : iprop(some' (peer true c) (ringM true) ∗ some' (peer false c) (ringM false))
    ⊢ (bigSep Finset.univ fun i => both fun d => some' (peer d c) (slotM d i) : sProp 𝕄) := by
  unfold both
  rw [BI.bigSep_sep']
  exact BIClass.sep_mono (ring_cut _ true) (ring_cut _ false)
include m in
/-- The own landing buffers from their slots. -/
theorem slots_back : (bigSep Finset.univ fun i => both fun d => some' c (slotM d i)) ⊢ (both fun d => some' c (ringM d) : sProp 𝕄) := by
  unfold both
  rw [BI.bigSep_sep']
  exact BIClass.sep_mono (ring_join m _ true) (ring_join m _ false)
/-- The chunk buffer and the copies' semaphores at zero: two idle chunks. -/
theorem chunks_apart : iprop(some' c kM ∗ bigSep Finset.univ fun j : Fin 2 => semVal ((c : Thread nD τ), SemLoc.dma (copyS j)) 0)
    ⊢ (bigSep Finset.univ fun j => idle c j : sProp 𝕄) := by
  unfold idle
  rw [BI.bigSep_sep']
  exact BIClass.sep_mono (chunk_cut c) Entails.rfl
include m in
/-- Two idle chunks are the chunk buffer and the copies' semaphores at zero. -/
theorem chunks_back : (bigSep Finset.univ fun j => idle c j : sProp 𝕄)
    ⊢ iprop(some' c kM ∗ bigSep Finset.univ fun j : Fin 2 => semVal ((c : Thread nD τ), SemLoc.dma (copyS j)) 0) := by
  unfold idle
  rw [BI.bigSep_sep']
  exact BIClass.sep_mono (chunk_join m c) Entails.rfl

/-! ## A landed slot, half of which is sent on -/

/-- What is received with transfer `i` and sent on with transfer `i'`: half a share to keep, half to send. -/
theorem landed_halves (i i' : Fin 6) (hM : ∀ d, srcM d i' = slotM d i) (hB : ∀ d, srcB d i' c = landB d i c) :
    (both fun d => xferPay m ρ c true d i) ⊢ iprop(slots m ρ c fullShare.left i ∗ srcs m ρ c i') := by
  unfold slots srcs both xferPay
  simp only [hM, hB, if_true]
  iintro ⟨H1, H2⟩
  ihave H1 := (owns_halves (c : Thread nD τ) (slotM true i) fullShare _).1 $$ H1
  icases H1 with ⟨H1, H1'⟩
  ihave H2 := (owns_halves (c : Thread nD τ) (slotM false i) fullShare _).1 $$ H2
  icases H2 with ⟨H2, H2'⟩
  isplitl [H1 H2]
  · isplitl [H1] <;> iassumption
  isplitl [H1'] <;> iassumption
/-- The slots of transfer `i` again, once the sends on have given their halves back. -/
theorem landed_back (i i' : Fin 6) (hM : ∀ d, srcM d i' = slotM d i) (hB : ∀ d, srcB d i' c = landB d i c) :
    iprop(slots m ρ c fullShare.left i ∗ srcs m ρ c i') ⊢ (both fun d => some' c (slotM d i) : sProp 𝕄) := by
  unfold slots srcs both some'
  simp only [hM, hB]
  iintro ⟨⟨H1, H2⟩, H1', H2'⟩
  isplitl [H1 H1']
  · iexists _
    iapply (owns_halves (c : Thread nD τ) (slotM true i) fullShare _).2
    isplitl [H1] <;> iassumption
  · iexists _
    iapply (owns_halves (c : Thread nD τ) (slotM false i) fullShare _).2
    isplitl [H2] <;> iassumption
/-- What is received and not sent on. -/
theorem landed_all (i : Fin 6) : (both fun d => xferPay m ρ c true d i) ⊢ slots m ρ c fullShare i := Entails.rfl
/-- It is two slots at any contents. -/
theorem landed_kept (i : Fin 6) : slots m ρ c fullShare i ⊢ (both fun d => some' c (slotM d i) : sProp 𝕄) := by
  unfold slots both some'
  iintro ⟨H1, H2⟩
  isplitl [H1]
  · iexists _; iexact H1
  · iexists _; iexact H2

/-! ## The neighbours, by number -/

/-- The device numbers that the barrier's signals compute: the two neighbours. -/
theorem dev_bar : ∀ c : Dev nD, (⟨k0_dev1 c, k0_dev1_lt c⟩ : Dev nD) = fro true c ∧ (⟨k0_dev2 c, k0_dev2_lt c⟩ : Dev nD) = fro false c := by decide +kernel
/-- The device numbers that the sends compute: of the next device clockwise, of the previous one counterclockwise. -/
theorem dev_cw : ∀ c : Dev nD, (⟨k0_dev3 c, k0_dev3_lt c⟩ : Dev nD) = nxt c ∧ (⟨k0_dev5 c, k0_dev5_lt c⟩ : Dev nD) = nxt c ∧ (⟨k0_dev7 c, k0_dev7_lt c⟩ : Dev nD) = nxt c
    ∧ (⟨k0_dev9 c, k0_dev9_lt c⟩ : Dev nD) = nxt c ∧ (⟨k0_dev11 c, k0_dev11_lt c⟩ : Dev nD) = nxt c ∧ (⟨k0_dev13 c, k0_dev13_lt c⟩ : Dev nD) = nxt c := by decide +kernel
@[inherit_doc dev_cw] theorem dev_ccw : ∀ c : Dev nD, (⟨k0_dev4 c, k0_dev4_lt c⟩ : Dev nD) = prv c ∧ (⟨k0_dev6 c, k0_dev6_lt c⟩ : Dev nD) = prv c ∧ (⟨k0_dev8 c, k0_dev8_lt c⟩ : Dev nD) = prv c
    ∧ (⟨k0_dev10 c, k0_dev10_lt c⟩ : Dev nD) = prv c ∧ (⟨k0_dev12 c, k0_dev12_lt c⟩ : Dev nD) = prv c ∧ (⟨k0_dev14 c, k0_dev14_lt c⟩ : Dev nD) = prv c := by decide +kernel

end Cert.RingMatmul

end
-- ==== Proof.Deal.lean ====
/-
# What the launch deals

The ghost state of the protocol is made at launch: every cell's round, every duty's token, every position. A token is minted with
the cell it belongs to and goes to the device that pays the duty, one step round the ring.
-/
module

public import proofs.«01_k».proof.Proof.Pieces

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL)

variable {F : FTy → Type} [FloatOps F]

local notation "𝕄" => MT nD τ sig ℕ (Elt F) ℕ UU ℕ

variable (m : (ℓ : Loc nD τ sig) → Buf (Elt F) ℓ) (ρ : Dev nD → PrngReg)

/-! ## Families over ends of transfers and over cells -/

/-- The name of an end of a transfer: receiving or sending, direction, number. -/
abbrev XK : Type := Bool × Bool × Fin 6

/-- A family over the two directions is its two members. -/
theorem univ_bool (P : Bool → sProp 𝕄) : bigSep Finset.univ P = both P :=
  bigSep_univ_eq_bigSepL [true, false] (by decide) (by decide) P
/-- A family over all ends of transfers: the receiving ends, and the sending ends. -/
theorem univ_ends (P : XK → sProp 𝕄) : bigSep Finset.univ P
    = iprop((bigSep Finset.univ fun i => both fun d => P (true, d, i)) ∗ bigSep Finset.univ fun i => both fun d => P (false, d, i)) := by
  have h (r : Bool) : (bigSep Finset.univ fun x : Bool × Fin 6 => P (r, x)) = bigSep Finset.univ fun i => both fun d => P (r, d, i) := by
    rw [BI.bigSep_univ_prod, univ_bool]; unfold both; rw [BI.bigSep_sep']
  rw [BI.bigSep_univ_prod, univ_bool]
  exact congrArg₂ (fun A B : sProp 𝕄 => iprop(A ∗ B)) (h true) (h false)
/-- A family over a device's cells: the barrier, and the ends of transfers. -/
theorem univ_cells (P : CK → sProp 𝕄) : bigSep Finset.univ P = iprop(P none ∗ bigSep Finset.univ fun x : XK => P (some x)) := by
  rw [BI.bigSep_univ_at P none, show (Finset.univ.erase none : Finset CK) = Finset.univ.map Function.Embedding.some from by decide, bigSep_map]; rfl

/-! ## The kernel's own semaphores -/

/-- The semaphores of the transfers' ends, and of the copies out of the chunks. -/
def osem : XK ⊕ Fin 2 → SemLoc sig
  | .inl x => ksem (some x)
  | .inr j => .dma (copyS j)

set_option maxRecDepth 20000 in
/-- The kernel's own semaphores are distinct, and are all that the pipeline does not use. -/
theorem ownSemFacts : Pipeline.OwnSemFacts cfg0.spec osem := by decide +kernel

variable (c : Dev nD)

/-- The semaphores of the copies of device `c`, at zero. -/
def copies : sProp 𝕄 := bigSep Finset.univ fun j : Fin 2 => semVal ((c : Thread nD τ), SemLoc.dma (copyS j)) 0

/-- The kernel's own semaphores at zero: the ends of the transfers, and those of the copies. -/
theorem ownSems_eq : (Pipeline.ownSems0 (Ix := ℕ) (Name := ℕ) (U := UU) (Lvl := ℕ) (Val := Elt F) (τ := τ) osem c : sProp 𝕄)
    = iprop((bigSep Finset.univ fun x : XK => semVal (kcell (c, some x)) 0) ∗ copies c) := by
  unfold Pipeline.ownSems0; rw [BI.bigSep_univ_sum]; rfl
/-- The one semaphore that outlives the kernel is the barrier's. -/
theorem unscopedSems_eq : (unscopedSems0 c : sProp 𝕄) = semVal (barCell c) 0 := by
  unfold unscopedSems0; rw [bigSep_eq_bigSepL_of_eq [SemLoc.reg barS] (by decide) (by decide)]; rfl
/-- All semaphores at zero, as the body ends. -/
theorem zeros_eq : (zeros c : sProp 𝕄) = Pipeline.ownSems0 (Ix := ℕ) (Name := ℕ) (U := UU) (Lvl := ℕ) (Val := Elt F) (τ := τ) osem c := by
  rw [ownSems_eq, univ_ends]; unfold zeros zero copies
  exact BI.equiv_iff.mp ⟨BI.sep_assoc', BI.sep_assoc⟩

/-! ## The tokens -/

/-- The duties of device `c`'s cells: the barrier's two, and one at each end of a transfer. -/
abbrev tokOf (x : Dev nD × (Bool ⊕ XK)) : GSem nD τ sig × ℕ × Bool := match x.2 with
  | .inl d => (barCell x.1, 0, d)
  | .inr k => (kcell (x.1, some k), 0, false)
/-- Different duties are different tokens. -/
theorem tokOf_injective : Function.Injective (tokOf : Dev nD × (Bool ⊕ XK) → GSem nD τ sig × ℕ × Bool) := by
  rintro ⟨c, x⟩ ⟨c', x'⟩ h
  cases x with
  | inl d => cases x' with
    | inl d' => obtain ⟨h1, h2⟩ := Prod.mk.inj h; cases Prod.mk.inj (kcell_injective h1); cases Prod.mk.inj h2; simp_all
    | inr k => exact absurd (congrArg Prod.snd (kcell_injective (congrArg Prod.fst h))) (by simp)
  | inr k => cases x' with
    | inl d' => exact absurd (congrArg Prod.snd (kcell_injective (congrArg Prod.fst h))) (by simp)
    | inr k' => have h1 := kcell_injective (congrArg Prod.fst h); simp_all

/-- All cells of all devices, and all their duties' tokens. -/
def ringCells : Finset (GSem nD τ sig) := Finset.univ.map ⟨kcell, kcell_injective⟩
/-- All cells of all devices, and all their duties' tokens. -/
def ringToks : Finset (GSem nD τ sig × ℕ × Bool) := Finset.univ.map ⟨tokOf, tokOf_injective⟩

/-- The launch element: the pipeline's, the cells', and no counter. -/
def u₀ : UU := (initOf (Pipeline.cells cfgs cellOf_inj) (Pipeline.launchToks cfgs cellOf_inj), (Emb.inl : Emb UB (UB × Counters)) (initOf ringCells ringToks))

/-- The token of duty `d` of the barrier of `c`; the tokens of the ends of the transfers of `c`, of one kind and direction. -/
def barTok (d : Bool) : sProp 𝕄 := dutyTok ER (barCell c) 0 d
@[inherit_doc barTok] def endToks (r d : Bool) : sProp 𝕄 := bigSep Finset.univ fun i : Fin 6 => dutyTok ER (xCell c r d i) 0 false
/-- The tokens of the cells of `c`, and the tokens of the duties that `c` pays. -/
def toks : sProp 𝕄 := iprop((both fun d => barTok c d) ∗ (both fun d => endToks c true d) ∗ both fun d => endToks c false d)
@[inherit_doc toks] def payToks : sProp 𝕄 :=
  iprop((both fun d => barTok (fro d c) d) ∗ (both fun d => endToks (peer d c) true d) ∗ both fun d => endToks c false d)

/-- The tokens of one device's cells, sorted by kind. -/
theorem toks_eq : (bigSep Finset.univ fun x : Bool ⊕ XK => (dutyTok ER (tokOf (c, x)).1 (tokOf (c, x)).2.1 (tokOf (c, x)).2.2 : sProp 𝕄)) = toks c := by
  rw [BI.bigSep_univ_sum, univ_bool, univ_ends]
  unfold toks endToks barTok both
  rw [BI.bigSep_sep', BI.bigSep_sep']; rfl

/-- Every token goes to the device that pays its duty. -/
theorem toks_around : (bigSep Finset.univ fun c : Dev nD => (toks c : sProp 𝕄)) ⊢ bigSep Finset.univ fun c : Dev nD => payToks c := by
  have hb (d : Bool) : (bigSep Finset.univ fun c : Dev nD => (barTok c d : sProp 𝕄)) = bigSep Finset.univ fun c : Dev nD => barTok (fro d c) d :=
    BI.bigSep_univ_equiv (ring d).symm fun c : Dev nD => (barTok c d : sProp 𝕄)
  have he (d : Bool) : (bigSep Finset.univ fun c : Dev nD => (endToks c true d : sProp 𝕄)) = bigSep Finset.univ fun c : Dev nD => endToks (peer d c) true d :=
    BI.bigSep_univ_equiv (ring d) fun c : Dev nD => (endToks c true d : sProp 𝕄)
  unfold toks payToks both
  simp only [BI.bigSep_sep']
  rw [hb true, hb false, he true, he false]

/-- The tokens a device pays with, send by send. -/
theorem sendToks_intro : iprop((both fun d => endToks (peer d c) true d) ∗ both fun d => endToks c false d)
    ⊢ (bigSep Finset.univ fun i => both fun d => sendToks c d i : sProp 𝕄) := by
  unfold both endToks sendToks
  simp only [BI.bigSep_sep']
  iintro ⟨⟨H1, H2⟩, H3, H4⟩
  isplitl [H1 H3]
  · isplitl [H3] <;> iassumption
  isplitl [H4] <;> iassumption

/-! ## The global step -/

/-- What the launch element deals device `c`. -/
def G : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)
/-- Every cell's invariant, and that its round is open. -/
def records (K : Dev nD × CK → ℕ) : sProp 𝕄 :=
  bigSep Finset.univ fun x : Dev nD × CK => iprop(cellInv ER (Rd m ρ) (K x) (kcell x) ∗ reached ER (kcell x) 0)
/-- The records may be shared out to every device. -/
instance records_persistent (K : Dev nD × CK → ℕ) : Persistent (records (F := F) m ρ K) := by unfold records; infer_instance
/-- What stays with device `c`: its positions, the tokens of the duties it pays, the semaphores of its copies. -/
def linear : sProp 𝕄 := iprop((bigSep Finset.univ fun k : CK => atPos ER (kcell (c, k)) 0 ∅ 0) ∗ payToks c ∗ copies c)
/-- What the global step makes of `G`. -/
def G' : sProp 𝕄 := iprop(∃ K, records m ρ K ∗ linear c)

/-- The launch element yields what is dealt to every device. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, BI.bigSep_univ_prod]; rfl
  have hT : bigSep ringToks (fun x => (dutyTok ER x.1 x.2.1 x.2.2 : sProp 𝕄)) = bigSep Finset.univ fun c : Dev nD => toks c := by
    unfold ringToks; rw [bigSep_map, BI.bigSep_univ_prod]
    exact BI.bigSep_congr fun c _ => toks_eq c
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [BI.bigSep_sep']
  isplitl [Hst']; · iexact Hst'
  isplitl [Hat' Hr']
  · isplitl [Hat'] <;> iassumption
  iexact Htok'

/-- Device `c` makes its cells' invariants from its semaphores. -/
theorem core_alloc :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ copies c) := by
  rw [ownSems_eq, unscopedSems_eq]
  unfold G
  iintro ⟨⟨Hos, Hcp⟩, Hus, Hst, Hat, Htok⟩
  ihave Hv := (Entails.of_eq (univ_cells fun k => semVal (kcell (c, k)) 0).symm) $$ [Hos Hus]
  · isplitl [Hus] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← BI.bigSep_sep']
        exact (BI.bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What may be shared out can be used at every member of a family. -/
theorem with_persistent {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact BI.bigSep_mono h)

/-- Once every device has made its invariants: all of them known to all devices, and every token with the device that pays it. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ copies c) : sProp 𝕄)
      ⊢ bigSep Finset.univ (G' m ρ) := by
  rw [BI.bigSep_sep', BI.bigSep_sep', BI.bigSep_sep', ← BI.bigSep_univ_prod (fun x : Dev nD × CK => iprop(∃ κ : ℕ, cellInv ER (Rd m ρ) κ (kcell x))),
    BI.bigSep_congr (s := Finset.univ) (fun (c : Dev nD) _ => BI.bigSep_sep' Finset.univ (fun k : CK => (atPos ER (kcell (c, k)) 0 ∅ 0 : sProp 𝕄)) (fun k => reached ER (kcell (c, k)) 0)),
    BI.bigSep_sep', ← BI.bigSep_univ_prod (fun x : Dev nD × CK => (reached ER (kcell x) 0 : sProp 𝕄))]
  iintro ⟨HI, ⟨Hat, #HR⟩, Htok, Hcp⟩
  ihave HK := (BI.bigSep_exists_pi Finset.univ (fun (x : Dev nD × CK) (κ : ℕ) => (cellInv ER (Rd m ρ) κ (kcell x) : sProp 𝕄))) $$ HI
  icases HK with ⟨%K, #HI⟩
  ihave Htk := (toks_around (F := F)) $$ Htok
  iapply (with_persistent (R := records m ρ K) (Φ := linear) fun c _ => exists_intro_trans (Ψ := fun K => iprop(records m ρ K ∗ linear c)) K Entails.rfl)
  isplitr
  · unfold records; simp only [BI.bigSep_sep']
    isplitl; · iexact HI
    iexact HR
  · unfold linear; simp only [BI.bigSep_sep']
    isplitl [Hat]; · iexact Hat
    isplitl [Htk] <;> iassumption

/-- All devices' semaphores together become the cells' invariants and each device's rights. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((BI.bigSep_mono fun c _ => core_alloc m ρ c).trans (bigSep_fupd _ _)).trans (BI.fupd_mono (regroup m ρ))

/-- With its launch credit a device's rights are those its body starts from. -/
theorem start_intro : iprop(linear c ∗ Pipeline.launchCred (fun d => tallyL (dueL d)) c) ⊢ (start c : sProp 𝕄) := by
  unfold linear payToks copies
  rw [univ_cells, univ_ends]
  iintro ⟨⟨⟨Hb, HR, HS⟩, ⟨Htb, Htr, Hts⟩, Hcp⟩, Hcr⟩
  ihave Hc := (creds c) $$ Hcr
  icases Hc with ⟨H2, Hu⟩
  ihave Hu := (Entails.of_eq (show (bigSep Finset.univ fun x : Bool × Fin 6 => cred (tallyAt (xCell c true x.1 x.2) (2 + x.2.val) N))
      = (bigSep Finset.univ fun i => both fun d => units c true d i : sProp 𝕄) from by
        rw [BI.bigSep_univ_prod, univ_bool]; unfold both units; rw [BI.bigSep_sep']; rfl)) $$ Hu
  ihave HT := (sendToks_intro c) $$ [Htr Hts]
  · isplitl [Htr] <;> iassumption
  unfold start
  isplitl [Htb]; · iexact Htb
  isplitl [H2]; · iexact H2
  isplitl [Hb]; · iexact Hb
  isplitl [HT]; · iexact HT
  isplitl [Hu]; · iexact Hu
  isplitl [HR]; · iexact HR
  isplitl [HS]; · iexact HS
  iexact Hcp

end Cert.RingMatmul

end
-- ==== Proof.Body.lean ====
/-
# The body of one device

The body runs from its launch resources to the finished result: the two barrier signals and the wait, the first sends, the four
products of own quarters, then six hops, and last the waits at the sending ends and for the last two copies.
-/
module

public import proofs.«01_k».proof.Proof.Pieces

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ) (c : Dev nD)

/-- The kernel's body on its buffers. -/
abbrev body : Prog (TpuEff nD τ sig (Elt F) Λ₀ .tc) PUnit :=
  cc0_body aM (Memref.isWhole_whole _) bM (Memref.isWhole_whole _) oM (Memref.isWhole_whole _) (Memref.whole cc0_scratch0) (Memref.isWhole_whole _)
    (Memref.whole cc0_scratch1) (Memref.isWhole_whole _) kM (Memref.isWhole_whole _) cc0_scratch3 cc0_scratch4 cc0_scratch5 cc0_scratch6 cc0_scratch7

set_option maxHeartbeats 4000000 in
set_option maxRecDepth 8000 in
/-- The whole body on a device: from its rights under the protocol, its buffers and its staged arguments it ends with the result at
    the computed array, the arguments and buffers back, every semaphore at zero and nothing owed. -/
theorem sound_body {Q : PUnit → sProp 𝕄} :
    ctx m ρ K ⊢ iprop(start c -∗ scratch c -∗ some' c oM -∗ ((c : Thread nD τ).loc cc0_stg0_0 ↦{fullShare} aStg m ρ c) -∗ bAll m ρ c -∗ Ow c (dueL c)
      -∗ ((semVal (barCell c) 0 ∗ zeros c ∗ scratch c ∗ ((c : Thread nD τ).loc main_v1 ↦{fullShare} outAll m ρ c)
          ∗ ((c : Thread nD τ).loc cc0_stg0_0 ↦{fullShare} aStg m ρ c) ∗ bAll m ρ c ∗ Ow c []) -∗ Q ⟨⟩)
      -∗ run c body Q) := by
  simp only [body, cc0_body_eq_skeleton]; unfold cc0_body_skel
  simp only [k0_part26_eq_skeleton]; unfold k0_part26_skel
  simp only [k0_part1_eq_skeleton]; unfold k0_part1_skel
  simp only [semSignalWord, semWaitWord, Prog.lift, Prog.bind_op, Prog.bind_ret, Prog.pure_eq_ret, Prog.bind_assoc, wp_deviceId]
  unfold start scratch
  rw [dueL_eq, six, six, six, six]
  iintro #Hctx ⟨Hbt, Hbc, Hba, HT, HU, HR, HS, HC⟩ ⟨Hring, HKM⟩ Hout HA HB Ho Hk
  ihave Hbt := (both_apart _) $$ Hbt
  ihave Hring := (both_apart _) $$ Hring
  icases Hbt with ⟨Hbt, Hbt'⟩
  icases Hring with ⟨Hr, Hr'⟩
  iapply (step_signal m ρ K c true (dev_bar c).1 rfl _) $$ Hctx Hbt Hr Ho
  iintro Ho
  iapply (step_signal m ρ K c false (dev_bar c).2 rfl _) $$ Hctx Hbt' Hr' Ho
  iintro Ho
  iapply (step_barrier m ρ K c rfl) $$ Hctx Hbc Hba Ho
  iintro ⟨Hp, Hp', Hbar, Ho⟩
  ihave HP := (peers_apart c) $$ [Hp Hp']
  · isplitl [Hp] <;> iassumption
  ihave HP := (Entails.of_eq (six _)) $$ HP
  icases HP with ⟨HP0, HP1, HP2, HP3, HP4, HP5⟩
  icases HT with ⟨HT0, HT1, HT2, HT3, HT4, HT5⟩
  icases HU with ⟨HU0, HU1, HU2, HU3, HU4, HU5⟩
  icases HR with ⟨HR0, HR1, HR2, HR3, HR4, HR5⟩
  icases HS with ⟨HS0, HS1, HS2, HS3, HS4, HS5⟩
  ihave HD := (out_apart c) $$ Hout
  unfold blocks
  icases HD with ⟨HD0, HD1, HD2, HD3, HD4, HD5, HD6, HD7, HD8, HD9, HD10, HD11, HD12, HD13, HD14, HD15⟩
  ihave HC := (chunks_apart c) $$ [HKM HC]
  · isplitl [HKM] <;> iassumption
  ihave HC := (Entails.of_eq (two _)) $$ HC
  icases HC with ⟨HC0, HC1⟩
  ihave HA := (rows_apart m ρ c) $$ HA
  icases HA with ⟨HA, HQ0, HQ1⟩
  -- the first sends, and the products of the own quarters
  simp only [k0_part2_eq_skeleton, k0_part3_eq_skeleton, k0_part4_eq_skeleton, k0_part5_eq_skeleton]
  unfold k0_part2_skel k0_part3_skel k0_part4_skel k0_part5_skel
  simp only [Prog.lift, Prog.bind_op, Prog.bind_ret, Prog.pure_eq_ret, Prog.bind_assoc]
  iapply (send_both m ρ c K 0 0 1 ⟨rfl, rfl⟩ (dev_cw c).1 (dev_ccw c).1 rfl rfl rfl rfl rfl rfl rfl rfl) $$ Hctx HT0 HP0 HQ0 Ho
  iintro ⟨HV0, Ho⟩
  iapply (send_both m ρ c K 1 1 2 ⟨rfl, rfl⟩ (dev_cw c).2.1 (dev_ccw c).2.1 rfl rfl rfl rfl rfl rfl rfl rfl) $$ Hctx HT1 HP1 HQ1 Ho
  iintro ⟨HV1, Ho⟩
  iapply (product_own m ρ c 0 0 rfl rfl stored_own rfl rfl (off_own c 0)) $$ HA HB HC0 HD0
  iintro ⟨HA, HB, HC0⟩
  iapply (product_own m ρ c 1 1 rfl rfl stored_own rfl rfl (off_own c 1)) $$ HA HB HC1 HD1
  iintro ⟨HA, HB, HC1⟩
  iapply (product_own' m ρ c K 2 0 _ _ 2 rfl rfl rfl rfl stored_own rfl (off_own c 2)) $$ Hctx HA HB HC0 HD2 Ho
  iintro ⟨HA, HB, HD0, HC0, Ho⟩
  iapply (product_own' m ρ c K 3 1 _ _ 2 rfl rfl rfl rfl stored_own rfl (off_own c 3)) $$ Hctx HA HB HC1 HD3 Ho
  iintro ⟨HA, HB, HD1, HC1, Ho⟩
  -- hop 0, half 0
  simp only [k0_part6_eq_skeleton, k0_part7_eq_skeleton, k0_part8_eq_skeleton, k0_part9_eq_skeleton]
  unfold k0_part6_skel k0_part7_skel k0_part8_skel k0_part9_skel
  simp only [Prog.lift, Prog.bind_op, Prog.bind_ret, Prog.pure_eq_ret, Prog.bind_assoc]
  iapply (wait_both m ρ c K true 0 2 (by decide) rfl rfl rfl rfl) $$ Hctx HU0 HR0 Ho
  iintro ⟨HX0, HZ0, Ho⟩
  ihave HX0 := (landed_halves m ρ c 0 2 (fun d => by cases d <;> rfl) (fun d => by cases d <;> rfl)) $$ HX0
  icases HX0 with ⟨HX0, HQ2⟩
  iapply (send_both m ρ c K 2 2 3 ⟨rfl, rfl⟩ (dev_cw c).2.2.1 (dev_ccw c).2.2.1 rfl rfl rfl rfl rfl rfl rfl rfl) $$ Hctx HT2 HP2 HQ2 Ho
  iintro ⟨HV2, Ho⟩
  ihave HX0 := (both_apart _) $$ HX0
  icases HX0 with ⟨HX0, HY0⟩
  iapply (product m ρ c K true 0 0 _ _ 3 fullShare.left rfl rfl rfl rfl rfl stored_landed rfl (off_cw c 0)) $$ Hctx HX0 HB HC0 HD4 Ho
  iintro ⟨HX0, HB, HD2, HC0, Ho⟩
  iapply (product m ρ c K false 0 1 _ _ 3 fullShare.left rfl rfl rfl rfl rfl stored_landed rfl (off_ccw c 0)) $$ Hctx HY0 HB HC1 HD5 Ho
  iintro ⟨HY0, HB, HD3, HC1, Ho⟩
  -- hop 0, half 1
  simp only [k0_part10_eq_skeleton, k0_part11_eq_skeleton, k0_part12_eq_skeleton]
  unfold k0_part10_skel k0_part11_skel k0_part12_skel
  simp only [Prog.lift, Prog.bind_op, Prog.bind_ret, Prog.pure_eq_ret, Prog.bind_assoc]
  iapply (wait_both m ρ c K true 1 3 (by decide) rfl rfl rfl rfl) $$ Hctx HU1 HR1 Ho
  iintro ⟨HX1, HZ1, Ho⟩
  ihave HX1 := (landed_halves m ρ c 1 3 (fun d => by cases d <;> rfl) (fun d => by cases d <;> rfl)) $$ HX1
  icases HX1 with ⟨HX1, HQ3⟩
  iapply (send_both m ρ c K 3 3 4 ⟨rfl, rfl⟩ (dev_cw c).2.2.2.1 (dev_ccw c).2.2.2.1 rfl rfl rfl rfl rfl rfl rfl rfl) $$ Hctx HT3 HP3 HQ3 Ho
  iintro ⟨HV3, Ho⟩
  ihave HX1 := (both_apart _) $$ HX1
  icases HX1 with ⟨HX1, HY1⟩
  iapply (product m ρ c K true 1 0 _ _ 4 fullShare.left rfl rfl rfl rfl rfl stored_landed rfl (off_cw c 1)) $$ Hctx HX1 HB HC0 HD6 Ho
  iintro ⟨HX1, HB, HD4, HC0, Ho⟩
  iapply (product m ρ c K false 1 1 _ _ 4 fullShare.left rfl rfl rfl rfl rfl stored_landed rfl (off_ccw c 1)) $$ Hctx HY1 HB HC1 HD7 Ho
  iintro ⟨HY1, HB, HD5, HC1, Ho⟩
  -- hop 1, half 0
  simp only [k0_part13_eq_skeleton, k0_part14_eq_skeleton, k0_part15_eq_skeleton]
  unfold k0_part13_skel k0_part14_skel k0_part15_skel
  simp only [Prog.lift, Prog.bind_op, Prog.bind_ret, Prog.pure_eq_ret, Prog.bind_assoc]
  iapply (wait_both m ρ c K true 2 4 (by decide) rfl rfl rfl rfl) $$ Hctx HU2 HR2 Ho
  iintro ⟨HX2, HZ2, Ho⟩
  ihave HX2 := (landed_halves m ρ c 2 4 (fun d => by cases d <;> rfl) (fun d => by cases d <;> rfl)) $$ HX2
  icases HX2 with ⟨HX2, HQ4⟩
  iapply (send_both m ρ c K 4 4 5 ⟨rfl, rfl⟩ (dev_cw c).2.2.2.2.1 (dev_ccw c).2.2.2.2.1 rfl rfl rfl rfl rfl rfl rfl rfl) $$ Hctx HT4 HP4 HQ4 Ho
  iintro ⟨HV4, Ho⟩
  ihave HX2 := (both_apart _) $$ HX2
  icases HX2 with ⟨HX2, HY2⟩
  iapply (product m ρ c K true 2 0 _ _ 5 fullShare.left rfl rfl rfl rfl rfl stored_landed rfl (off_cw c 2)) $$ Hctx HX2 HB HC0 HD8 Ho
  iintro ⟨HX2, HB, HD6, HC0, Ho⟩
  iapply (product m ρ c K false 2 1 _ _ 5 fullShare.left rfl rfl rfl rfl rfl stored_landed rfl (off_ccw c 2)) $$ Hctx HY2 HB HC1 HD9 Ho
  iintro ⟨HY2, HB, HD7, HC1, Ho⟩
  -- hop 1, half 1
  simp only [k0_part16_eq_skeleton, k0_part17_eq_skeleton, k0_part18_eq_skeleton]
  unfold k0_part16_skel k0_part17_skel k0_part18_skel
  simp only [Prog.lift, Prog.bind_op, Prog.bind_ret, Prog.pure_eq_ret, Prog.bind_assoc]
  iapply (wait_both m ρ c K true 3 5 (by decide) rfl rfl rfl rfl) $$ Hctx HU3 HR3 Ho
  iintro ⟨HX3, HZ3, Ho⟩
  ihave HX3 := (landed_halves m ρ c 3 5 (fun d => by cases d <;> rfl) (fun d => by cases d <;> rfl)) $$ HX3
  icases HX3 with ⟨HX3, HQ5⟩
  iapply (send_both m ρ c K 5 5 6 ⟨rfl, rfl⟩ (dev_cw c).2.2.2.2.2 (dev_ccw c).2.2.2.2.2 rfl rfl rfl rfl rfl rfl rfl rfl) $$ Hctx HT5 HP5 HQ5 Ho
  iintro ⟨HV5, Ho⟩
  ihave HX3 := (both_apart _) $$ HX3
  icases HX3 with ⟨HX3, HY3⟩
  iapply (product m ρ c K true 3 0 _ _ 6 fullShare.left rfl rfl rfl rfl rfl stored_landed rfl (off_cw c 3)) $$ Hctx HX3 HB HC0 HD10 Ho
  iintro ⟨HX3, HB, HD8, HC0, Ho⟩
  iapply (product m ρ c K false 3 1 _ _ 6 fullShare.left rfl rfl rfl rfl rfl stored_landed rfl (off_ccw c 3)) $$ Hctx HY3 HB HC1 HD11 Ho
  iintro ⟨HY3, HB, HD9, HC1, Ho⟩
  -- hop 2, half 0
  simp only [k0_part19_eq_skeleton, k0_part20_eq_skeleton]
  unfold k0_part19_skel k0_part20_skel
  simp only [Prog.lift, Prog.bind_op, Prog.bind_ret, Prog.pure_eq_ret, Prog.bind_assoc]
  iapply (wait_both m ρ c K true 4 6 (by decide) rfl rfl rfl rfl) $$ Hctx HU4 HR4 Ho
  iintro ⟨HX4, HZ4, Ho⟩
  ihave HX4 := (landed_all m ρ c 4) $$ HX4
  ihave HX4 := (both_apart _) $$ HX4
  icases HX4 with ⟨HX4, HY4⟩
  iapply (product m ρ c K true 4 0 _ _ 6 fullShare rfl rfl rfl rfl rfl stored_landed rfl (off_cw c 4)) $$ Hctx HX4 HB HC0 HD12 Ho
  iintro ⟨HX4, HB, HD10, HC0, Ho⟩
  iapply (product m ρ c K false 4 1 _ _ 6 fullShare rfl rfl rfl rfl rfl stored_landed rfl (off_ccw c 4)) $$ Hctx HY4 HB HC1 HD13 Ho
  iintro ⟨HY4, HB, HD11, HC1, Ho⟩
  -- hop 2, half 1
  simp only [k0_part22_eq_skeleton, k0_part23_eq_skeleton]
  unfold k0_part22_skel k0_part23_skel
  simp only [Prog.lift, Prog.bind_op, Prog.bind_ret, Prog.pure_eq_ret, Prog.bind_assoc]
  iapply (wait_both m ρ c K true 5 6 (by decide) rfl rfl rfl rfl) $$ Hctx HU5 HR5 Ho
  iintro ⟨HX5, HZ5, Ho⟩
  ihave HX5 := (landed_all m ρ c 5) $$ HX5
  ihave HX5 := (both_apart _) $$ HX5
  icases HX5 with ⟨HX5, HY5⟩
  iapply (product m ρ c K true 5 0 _ _ 6 fullShare rfl rfl rfl rfl rfl stored_landed rfl (off_cw c 5)) $$ Hctx HX5 HB HC0 HD14 Ho
  iintro ⟨HX5, HB, HD12, HC0, Ho⟩
  iapply (product m ρ c K false 5 1 _ _ 6 fullShare rfl rfl rfl rfl rfl stored_landed rfl (off_ccw c 5)) $$ Hctx HY5 HB HC1 HD15 Ho
  iintro ⟨HY5, HB, HD13, HC1, Ho⟩
  -- the waits at the sending ends and for the last two copies
  simp only [k0_part24_eq_skeleton, k0_part25_eq_skeleton]
  unfold k0_part24_skel k0_part25_skel
  simp only [Prog.lift, Prog.bind_op, Prog.bind_ret, Prog.pure_eq_ret, Prog.bind_assoc]
  iapply (wait_both m ρ c K false 0 6 (by decide) rfl rfl rfl rfl) $$ Hctx HV0 HS0 Ho
  iintro ⟨HQ0, HW0, Ho⟩
  iapply (wait_both m ρ c K false 1 6 (by decide) rfl rfl rfl rfl) $$ Hctx HV1 HS1 Ho
  iintro ⟨HQ1, HW1, Ho⟩
  iapply (wait_both m ρ c K false 2 6 (by decide) rfl rfl rfl rfl) $$ Hctx HV2 HS2 Ho
  iintro ⟨HQ2, HW2, Ho⟩
  iapply (wait_both m ρ c K false 3 6 (by decide) rfl rfl rfl rfl) $$ Hctx HV3 HS3 Ho
  iintro ⟨HQ3, HW3, Ho⟩
  iapply (wait_both m ρ c K false 4 6 (by decide) rfl rfl rfl rfl) $$ Hctx HV4 HS4 Ho
  iintro ⟨HQ4, HW4, Ho⟩
  iapply (wait_both m ρ c K false 5 6 (by decide) rfl rfl rfl rfl) $$ Hctx HV5 HS5 Ho
  iintro ⟨HQ5, HW5, Ho⟩
  iapply (step_copied m ρ c 0 _ _ 6 K rfl (dst := oM.slice (Rect.unit (s := S12288x3072) (k0_off2 c 2#32 768#32) S768x3072.size (k0_off2_inb c 2 1)) (fun _ => rfl)) NK_eq) $$ Hctx HC0 Ho
  iintro ⟨HD14, HC0, Ho⟩
  iapply (step_copied m ρ c 1 _ _ 6 K rfl (dst := oM.slice (Rect.unit (s := S12288x3072) (k0_off3 c 2#32 768#32) S768x3072.size (k0_off3_inb c 2 1)) (fun _ => rfl)) NK_eq) $$ Hctx HC1 Ho
  iintro ⟨HD15, HC1, Ho⟩
  -- the pieces together again
  ihave HA := (rows_back m ρ c) $$ [HA HQ0 HQ1]
  · isplitl [HA]; · iexact HA
    isplitl [HQ0]; · iexact HQ0
    iexact HQ1
  ihave HX0 := (landed_back m ρ c 0 2 (fun d => by cases d <;> rfl) (fun d => by cases d <;> rfl)) $$ [HX0 HY0 HQ2]
  · isplitl [HX0 HY0]; · (unfold slots both; isplitl [HX0] <;> iassumption)
    iexact HQ2
  ihave HX1 := (landed_back m ρ c 1 3 (fun d => by cases d <;> rfl) (fun d => by cases d <;> rfl)) $$ [HX1 HY1 HQ3]
  · isplitl [HX1 HY1]; · (unfold slots both; isplitl [HX1] <;> iassumption)
    iexact HQ3
  ihave HX2 := (landed_back m ρ c 2 4 (fun d => by cases d <;> rfl) (fun d => by cases d <;> rfl)) $$ [HX2 HY2 HQ4]
  · isplitl [HX2 HY2]; · (unfold slots both; isplitl [HX2] <;> iassumption)
    iexact HQ4
  ihave HX3 := (landed_back m ρ c 3 5 (fun d => by cases d <;> rfl) (fun d => by cases d <;> rfl)) $$ [HX3 HY3 HQ5]
  · isplitl [HX3 HY3]; · (unfold slots both; isplitl [HX3] <;> iassumption)
    iexact HQ5
  ihave HX4 := (landed_kept m ρ c 4) $$ [HX4 HY4]
  · unfold slots both; isplitl [HX4] <;> iassumption
  ihave HX5 := (landed_kept m ρ c 5) $$ [HX5 HY5]
  · unfold slots both; isplitl [HX5] <;> iassumption
  ihave Hring := (slots_back m c) $$ [HX0 HX1 HX2 HX3 HX4 HX5]
  · iapply (Entails.of_eq (six _).symm)
    isplitl [HX0]; · iexact HX0
    isplitl [HX1]; · iexact HX1
    isplitl [HX2]; · iexact HX2
    isplitl [HX3]; · iexact HX3
    isplitl [HX4]; · iexact HX4
    iexact HX5
  ihave HC := (chunks_back m c) $$ [HC0 HC1]
  · iapply (Entails.of_eq (two _).symm)
    isplitl [HC0] <;> iassumption
  icases HC with ⟨HKM, HC⟩
  ihave Hout := (out_back m ρ c) $$ [HD0 HD1 HD2 HD3 HD4 HD5 HD6 HD7 HD8 HD9 HD10 HD11 HD12 HD13 HD14 HD15]
  · unfold blocks
    isplitl [HD0]; · iexact HD0
    isplitl [HD1]; · iexact HD1
    isplitl [HD2]; · iexact HD2
    isplitl [HD3]; · iexact HD3
    isplitl [HD4]; · iexact HD4
    isplitl [HD5]; · iexact HD5
    isplitl [HD6]; · iexact HD6
    isplitl [HD7]; · iexact HD7
    isplitl [HD8]; · iexact HD8
    isplitl [HD9]; · iexact HD9
    isplitl [HD10]; · iexact HD10
    isplitl [HD11]; · iexact HD11
    isplitl [HD12]; · iexact HD12
    isplitl [HD13]; · iexact HD13
    isplitl [HD14]; · iexact HD14
    iexact HD15
  simp only [wp_ret]
  imodintro
  iapply Hk
  isplitl [Hbar]; · iexact Hbar
  isplitl [HZ0 HZ1 HZ2 HZ3 HZ4 HZ5 HW0 HW1 HW2 HW3 HW4 HW5 HC]
  · unfold zeros
    isplitl [HZ0 HZ1 HZ2 HZ3 HZ4 HZ5]
    · iapply (Entails.of_eq (six _).symm)
      isplitl [HZ0]; · iexact HZ0
      isplitl [HZ1]; · iexact HZ1
      isplitl [HZ2]; · iexact HZ2
      isplitl [HZ3]; · iexact HZ3
      isplitl [HZ4]; · iexact HZ4
      iexact HZ5
    isplitl [HW0 HW1 HW2 HW3 HW4 HW5]
    · iapply (Entails.of_eq (six _).symm)
      isplitl [HW0]; · iexact HW0
      isplitl [HW1]; · iexact HW1
      isplitl [HW2]; · iexact HW2
      isplitl [HW3]; · iexact HW3
      isplitl [HW4]; · iexact HW4
      iexact HW5
    iexact HC
  isplitl [Hring HKM]
  · isplitl [Hring] <;> iassumption
  isplitl [Hout]; · iexact Hout
  isplitl [HA]; · iexact HA
  isplitl [HB]; · iexact HB
  iexact Ho

end Cert.RingMatmul

end
-- ==== Proof.Launch.lean ====
/-
# The run of the program

The launch: what the pipeline stages and what the body leaves, the body's obligation, and the run of `main` on the four devices.
-/
module

public import proofs.«01_k».proof.Proof.Deal
public import proofs.«01_k».proof.Proof.Body
public import Idealize.ShloMosaic.Lib.Pipeline.CollectiveSegs

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (tallyL)

variable {F : FTy → Type} [FloatOps F]

local notation "𝕄" => MT nD τ sig ℕ (Elt F) ℕ UU ℕ

variable (m : (ℓ : Loc nD τ sig) → Buf (Elt F) ℓ) (ρ : Dev nD → PrngReg)

/-- A buffer of device `c`, whole, at contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Holding a whole memref at contents `X` is holding the buffer at `X`. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns stg; simp only [Memref.view_whole, View.read_whole, View.set_whole]

/-- A whole buffer at any contents. -/
theorem any_whole (c : Dev nD) (b : Ref sig .tc) :
    iprop(∃ X, owns (Ix := ℕ) (Name := ℕ) (U := UU) (Lvl := ℕ) (c : Thread nD τ) (Memref.whole b) fullShare X : sProp 𝕄)
      = iprop(∃ f : Buf (Elt F) ((c : Thread nD τ).loc b), (c : Thread nD τ).loc b ↦{fullShare} f) :=
  (Memref.isWhole_whole b).exists_owns_eq (c := (c : Thread nD τ)) fullShare

/-- What a device's body starts from besides its staged buffers and its landing buffers, and what it leaves beside them. -/
def before₀ (c : Dev nD) : sProp 𝕄 := iprop((∃ K, ctx m ρ K) ∗ start c ∗ (∃ f : Buf (Elt F) ((c : Thread nD τ).loc main_v1), (c : Thread nD τ).loc main_v1 ↦{fullShare} f))
@[inherit_doc before₀] def after₀ (c : Dev nD) : sProp 𝕄 := iprop(semVal (barCell c) 0 ∗ zeros c ∗ ((c : Thread nD τ).loc main_v1 ↦{fullShare} outAll m ρ c))
/-- The state of a device before its one step and after it. -/
def Φ₀ (c : Dev nD) : sProp 𝕄 := iprop(before₀ m ρ c ∗ scratch c)
@[inherit_doc Φ₀] def Φ₁ (c : Dev nD) : sProp 𝕄 := iprop(after₀ m ρ c ∗ scratch c)

/-- The proof data of the one pipeline. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => aStg m ρ c
    | ⟨1, _⟩ => bStg m ρ c
  Φ t := match t with
    | ⟨0, _⟩ => Φ₀ m ρ c
    | ⟨_ + 1, _⟩ => Φ₁ m ρ c
  q _ := fullShare
  owed t := match t with
    | ⟨0, _⟩ => tallyL (dueL c)
    | ⟨_ + 1, _⟩ => 0

/-- The pipeline holds every window whole. -/
theorem share_eq (c : Dev nD) (w : Fin cfg0.W) : (dats m ρ 0 c).share w = fullShare := by unfold Dat.share; split <;> rfl

/-! ## The body's obligation -/

/-- What the pipeline gives the body at its step, and what it takes back. -/
def bodyPre (c : Dev nD) : sProp 𝕄 :=
  iprop(Φ₀ m ρ c ∗ (dats m ρ 0 c).owesAt 0 (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
@[inherit_doc bodyPre] def bodyPost (c : Dev nD) : sProp 𝕄 :=
  iprop(Φ₁ m ρ c ∗ (dats m ρ 0 c).owesAt 0 (t0_0 : Fin cfg0.N).succ
    ∗ stg c cc0_stg0_0 (aStg m ρ c) ∗ stg c cc0_stg1_0 (bStg m ρ c))

/-- At the body's step the first window is staged: the device's rows of `A`, -/
theorem before_a (c : Dev nD) (d) : (dats m ρ 0 c).before (0 : Fin 2) t0_0 d = aStg m ρ c := by
  unfold Dat.before; rw [if_pos (fetch0_0 t0_0)]; rfl
/-- and so is the second: `B`. -/
theorem before_b (c : Dev nD) (d) : (dats m ρ 0 c).before (1 : Fin 2) t0_0 d = bStg m ρ c := by
  unfold Dat.before; rw [if_pos (fetch0_1 t0_0)]; rfl

/-- The body does what the pipeline asks. -/
theorem body_sound (c : Dev nD) : bodyPre m ρ c ⊢ run c body fun _ => bodyPost m ρ c := by
  unfold bodyPre Φ₀ before₀ stg
  simp only [before_a, before_b]
  iintro ⟨⟨⟨⟨%K, #Hctx⟩, Hst, Hout⟩, Hscr⟩, Ho, ⟨%d, %fa, %ha, HA⟩, ⟨%d', %fb, %hb, HB⟩⟩
  unfold Dat.owesAt Pipeline.owesWithin
  icases Ho with ⟨%W, %hW, Ho⟩
  subst ha hb
  ihave Hout := (show _ ⊢ some' c oM from Entails.of_eq (any_whole c main_v1).symm) $$ Hout
  ihave HB := (show ((c : Thread nD τ).loc cc0_stg1_0 ↦{fullShare} bStg m ρ c) ⊢ bAll m ρ c from Entails.rfl) $$ HB
  iapply (sound_body m ρ K c) $$ Hctx Hst Hscr Hout HA HB [Ho]
  · unfold Ow; iexists W; iexact Ho
  iintro ⟨Hbar, Hz, Hscr, Hout, HA, HB, Ho⟩
  unfold Ow bodyPost Φ₁ after₀ stg Dat.owesAt Pipeline.owesWithin
  icases Ho with ⟨%W', Ho⟩
  isplitl [Hbar Hz Hout Hscr]
  · isplitr [Hscr]
    · isplitl [Hbar]; · iexact Hbar
      isplitl [Hz] <;> iassumption
    iexact Hscr
  isplitl [Ho]
  · iexists W'; isplitr; · (ipureintro; exact fun _ _ => Or.inl trivial)
    iexact Ho
  isplitl [HA]
  · iexists _; isplitr; · (ipureintro; rfl)
    iexact HA
  iexists _; isplitr; · (ipureintro; rfl)
  iapply (show bAll m ρ c ⊢ ((c : Thread nD τ).loc cc0_stg1_0 ↦{fullShare} bStg m ρ c) from Entails.rfl); iexact HB

/-- A family over the windows is its two members. -/
theorem both_windows (P : Fin cfg0.W → sProp 𝕄) : bigSep Finset.univ P = iprop(P (0 : Fin 2) ∗ P (1 : Fin 2)) := bigSep_W0 P

set_option maxRecDepth 8000 in
/-- The body meets the obligation that the pipeline's launch asks of it. -/
theorem body_obligation (c : Dev nD) : BodyObligation (dats (F := F) m ρ 0 c) (defs₀ (F := F)) 𝒱₀ 0 Set.univ := fun t => by
  rw [fin_N0 t]
  rw [both_windows, both_windows]
  simp only [owns_whole_eq]
  exact body_sound m ρ c

/-! ## The side conditions of the launch -/

/-- From what the launch hands a device it has what its body starts from. -/
theorem enter (c : Dev nD) :
    iprop(Pipeline.unscopedRestP Pipeline.Prefetch.none cfg0.spec c (fun b => m ((c : Thread nD τ).loc b)) ∗ levAts L lv
        ∗ Pipeline.launchCred (fun d => tallyL (dueL d)) c ∗ prngReg c (ρ c) ∗ G' m ρ c)
      ⊢ |={Set.univ}=> iprop(before₀ m ρ c ∗ emp) := by
  rw [Pipeline.unscopedRestP_none, unscopedRest0_eq]
  unfold G'
  iintro ⟨Hout, Hlev, Hcr, -, ⟨%K, HR, HL⟩⟩
  ihave Hst := (start_intro c) $$ [HL Hcr]
  · isplitl [HL] <;> iassumption
  imodintro
  unfold before₀ ctx records
  isplitl
  · isplitl [HR Hlev]
    · iexists K
      isplitl [HR]; · iexact HR
      iexact Hlev
    isplitl [Hst]; · iexact Hst
    iexists _; iexact Hout
  · iempintro

/-- The landing buffers and the chunks, at any contents. -/
theorem scratch_eq (c : Dev nD) : (Pipeline.scopedRest cfg0.spec c : sProp 𝕄) = scratch c := by
  rw [scopedRest0_eq]
  unfold scratch
  show _ = iprop((some' c (ringM true) ∗ some' c (ringM false)) ∗ some' c kM)
  rw [show (some' c (ringM true) : sProp 𝕄) = _ from any_whole c cc0_scratch0, show (some' c (ringM false) : sProp 𝕄) = _ from any_whole c cc0_scratch1,
    show (some' c kM : sProp 𝕄) = _ from any_whole c cc0_scratch2]
  exact (BI.equiv_iff.mp ⟨BI.sep_assoc', BI.sep_assoc⟩)

/-- With its landing buffers and chunks that is the state before its step. -/
theorem phi_enter (c : Dev nD) :
    iprop(before₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption
/-- What is left to be read when a device has finished: its barrier at zero, and the result. -/
def left (c : Dev nD) : sProp 𝕄 := iprop(unscopedSems0 c ∗ ((c : Thread nD τ).loc main_v1 ↦{fullShare} outAll m ρ c))
/-- The state after its step gives what is left, the kernel's semaphores at zero, and its buffers. -/
theorem phi_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scratch_eq, ← zeros_eq]
  unfold Φ₁ after₀ left
  rw [unscopedSems_eq]
  iintro ⟨⟨Hb, Hz, Ho⟩, Hr⟩
  isplitl [Hb Ho]
  · isplitl [Hb] <;> iassumption
  isplitl [Hz] <;> iassumption

/-- The pipeline's own waits are allowed: they lie below everything that is owed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by decide) (dueL c) (dueL_above c)
    · exact mayWait c _ 0 (by decide) [] fun x hx => absurd hx List.not_mem_nil

/-- What a finished device leaves can be read off the memory. -/
theorem read_left (c : Dev nD) (s' : Phys nD τ sig (Elt F)) : iprop(left m ρ c ∗ emp ∗ SI s')
    ⊢ |={Set.univ}=> iprop(⌜(∀ sm : SemLoc sig, sm.isScoped .tc = false → s'.mem.sem ((c.tc : Thread nD τ), sm) = 0)
        ∧ s'.mem.mem ((c : Thread nD τ).loc main_v1) = outAll m ρ c⌝ ∗ SI s' : sProp 𝕄) := by
  unfold left
  iintro ⟨⟨Hu, Hout⟩, -, HSI⟩
  ihave H := (pointsTo_read_all {()} (fun _ => (c : Thread nD τ).loc main_v1) (fun _ => outAll m ρ c) s') $$ [Hout HSI]
  · isplitl [Hout]
    · rw [bigSep_singleton]; iexact Hout
    iexact HSI
  icases H with ⟨%hout, HSI⟩
  imod (Pipeline.unscopedSems0_read (X := unscopedSems0 c) (c := c) fupd_intro s') $$ [Hu HSI] with ⟨%hs, HSI⟩
  · isplitl [Hu] <;> iassumption
  imodintro
  isplitr; · (ipureintro; exact ⟨hs, hout () (Finset.mem_singleton_self ())⟩)
  iexact HSI

/-! ## The run -/

/-- What holds when the program has finished, on every device: the arguments are what they were, and the result is the computed array. -/
def Done (r : PUnit × MemSt nD τ sig (Elt F)) : Prop := ∀ c : Dev nD,
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outAll m ρ c

set_option maxRecDepth 8000 in
/-- From any memory with zero counters, over any float values: every weakly fair execution of `main` on the four devices ends, with
    the arguments unchanged, the result of every device at the computed array, and every semaphore at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => tallyL (dueL d)) (howed₀ := fun _ => rfl) (howedN := fun _ => rfl)
    (L := L) (lv := lv) (hL := SiteBlocks.hL 8) (hwaits := waits m ρ)
    (G := G m ρ) (G' := G' m ρ) (u₀ := u₀)
    (hu₀ := by
      unfold u₀
      iintro Hu
      ihave H := (ownU_pair _ _) $$ Hu
      icases H with ⟨HP, HX⟩
      ihave HX := (show BI.own (embR ((Emb.inl : Emb UB (UB × Counters)) (initOf ringCells ringToks))) ⊢ BI.own (ER (initOf ringCells ringToks) : MT nD τ sig ℕ (Elt F) ℕ UU ℕ) from Entails.rfl) $$ HX
      imod (fund_ring m ρ) $$ HX with HG
      imodintro
      isplitl [HP] <;> iassumption)
    (hglob := glob m ρ)
    (hA := fun _ _ => rfl) (hpf := fun _ k => k.elim0)
    (X := before₀ m ρ) (Y := left m ρ) (Z := fun _ => iprop(emp))
    (hX := enter m ρ) (hin := phi_enter m ρ) (hout := phi_exit m ρ)
    (QY := fun c s => (∀ sm : SemLoc sig, sm.isScoped .tc = false → s.sem ((c.tc : Thread nD τ), sm) = 0)
      ∧ s.mem ((c : Thread nD τ).loc main_v1) = outAll m ρ c)
    (hY := read_left m ρ)
    (hQ := fun _ h hs => ⟨fun c => ⟨((h c).1 (0 : Fin 2)).trans ((dats (F := F) m ρ 0 c).arrAt_in (0 : Fin 2) rfl _),
      ((h c).1 (1 : Fin 2)).trans ((dats (F := F) m ρ 0 c).arrAt_in (1 : Fin 2) rfl _), (h c).2.2.2⟩, sem_eq_zero hs fun c => (h c).2.2.1⟩)

end Cert.RingMatmul

end
-- ==== Proof.Product.lean ====
/-
# One block of rows times `B`, over the extended reals

Over the extended reals a block's product, as the kernel computes it, is read entry by entry: the sum over the inner coordinate of the
products of the entries. The accumulator starts at zero and the change of format is the identity.
-/
module

public import proofs.«01_k».proof.Proof.Ring
public import Idealize.ShloMosaic.Lib.MatmulPlain

@[expose] public section

noncomputable section

namespace Cert.RingMatmul

open Cert.KernelIdeal Cert.KernelIdeal.Gen
open Idealize.ShloMosaic
open Idealize.ShloMosaic.ValueIdx

/-- The kernel's product reads the rows and `B` along their shared axis: the textbook matrix product. -/
theorem dot_plain : dot_S768x1536_S1536x3072_S768x3072_1_0_0_1_n_n = DotDims.plain 768 1536 3072 := rfl

/-- Entry (`r`, `l`) of a block's product is the sum over `k` of `a[r,k]` times `b[k,l]`. -/
theorem prodOf_entry (a : S768x1536.Idx → Elt Ideal .bf16) (b : S1536x3072.Idx → Elt Ideal .bf16) (r : Fin 768) (l : Fin 3072) :
    prodOf (F := Ideal) a b (ix2 r l) = ∑ k : Fin 1536, (a (ix2 r k) : EReal) * b (ix2 k l) := by
  unfold prodOf
  rw [dot_plain]
  refine (Ideal.matmul_plain_apply (φ₁ := .bf16) (φ₂ := .bf16) none a b (constant S768x3072 .f32 0x00000000#32) r l).trans ?_
  show Ideal.ofBits .f32 0x00000000#32 + _ = _
  rw [Ideal.ofBits_zero_f32, zero_add]

end Cert.RingMatmul

end
-- ==== Proof.Rows.lean ====
/-
# The blocks of rows, read from the whole array

What a device stages is its argument. When every device holds its block of a whole `A`, block `b` of the rows is rows `768 b` to
`768 b + 767` of that `A`.
-/
module

public import proofs.«01_k».proof.Proof.Ring
public import Idealize.ShloMosaic.Lib.Layout
public import Idealize.ShloMosaic.Lib.ValueIdxCore

@[expose] public section

noncomputable section

namespace Cert.RingMatmul

open Cert.KernelIdeal Cert.KernelIdeal.Gen
open Idealize.ShloMosaic
open Idealize.ShloMosaic.TcCoe
open Idealize.ShloMosaic.ValueIdx

variable {F : FTy → Type} [FloatOps F]

variable (m : (ℓ : Loc nD τ sig) → Buf (Elt F) ℓ) (ρ : Dev nD → PrngReg)

/-- The rows a device stages are its first argument. -/
theorem aStg_eq (c : Dev nD) : aStg m ρ c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide) (fun a => by fin_cases a <;> decide) _
/-- The `B` a device stages is its second argument. -/
theorem bStg_eq (c : Dev nD) : bStg m ρ c = m ((c : Thread nD τ).loc main_arg1) :=
  Memref.read_access_unit_zero (Elt F) main_arg1
    (show (fun a => (win0_1.index (0 : Fin 1)) a * main_arg1.ty.shape.size a) = fun _ => 0 from
      funext fun a => by fin_cases a <;> decide) (fun a => by fin_cases a <;> decide) _

/-- Where row `r` of block `b` lies in the whole `A`. -/
def wholeRow (b : Fin 16) (r : Fin 768) : Fin 12288 := ⟨768 * b.val + r.val, by omega⟩

/-- With every device holding its block of a whole `A`: row `r` of block `b` is row `768 b + r` of that `A`. -/
theorem rowsOf_entry (A : (⟨2, ![12288, 1536]⟩ : Shape).Idx → Elt F .bf16)
    (hA : ∀ c : Dev nD, m ((c : Thread nD τ).loc main_arg0) = Layout.block ⟨2, ![3072, 1536]⟩ ⟨2, ![12288, 1536]⟩ 0 4 c A)
    (b : Fin 16) (r : Fin 768) (k : Fin 1536) : rowsOf m ρ b (ix2 r k) = A (ix2 (wholeRow b r) k) := by
  unfold rowsOf
  rw [aStg_eq, hA]
  refine congrArg A (funext fun a => Fin.ext ?_)
  fin_cases a
  · show b.val / 4 * 3072 + (768 * (b.val % 4) + 1 * r.val) = 768 * b.val + r.val
    omega
  · show 0 + 1 * k.val = k.val
    omega

end Cert.RingMatmul

end
-- ==== Proof.RefValue.lean ====
/-
# The reference, over the extended reals

The reference's result, read entry by entry: the sum over the inner coordinate of the products of the entries of `A` and `B`. Its
changes of format are the identity.
-/
module

public import proofs.«01_k».proof.Proof.Gen.ReferenceIdeal.Run
public import Idealize.ShloMosaic.Lib.StackMember

@[expose] public section

noncomputable section

namespace Cert.RingMatmul

open Cert.ReferenceIdeal Cert.ReferenceIdeal.Gen
open Idealize.ShloMosaic
open Idealize.ShloMosaic.ValueIdx

/-- The reference's result as its operations compose it. -/
def refOf (A : S12288x1536.Idx → Elt Ideal .bf16) (B : S1536x3072.Idx → Elt Ideal .bf16) : S12288x3072.Idx → Elt Ideal .bf16 :=
  truncf (F := Ideal) .bf16 (Host.dotGeneral dot_S12288x1536_S1536x3072_S12288x3072_1_0_0_1_n_n none (extf (F := Ideal) (φ := .bf16) .f32 A bitsLt_bf16_f32)
    (extf (F := Ideal) (φ := .bf16) .f32 B bitsLt_bf16_f32)) bitsLt_bf16_f32

/-- The reference's product reads `A` and `B` along their shared axis: the textbook matrix product. -/
theorem ref_dot_plain : dot_S12288x1536_S1536x3072_S12288x3072_1_0_0_1_n_n = DotDims.plain 12288 1536 3072 := rfl

/-- Entry (`r`, `l`) of the reference's result is the sum over `k` of `A[r,k]` times `B[k,l]`. -/
theorem refOf_entry (A : S12288x1536.Idx → Elt Ideal .bf16) (B : S1536x3072.Idx → Elt Ideal .bf16) (r : Fin 12288) (l : Fin 3072) :
    refOf A B (ix2 r l) = ∑ k : Fin 1536, (A (ix2 r k) : EReal) * B (ix2 k l) := by
  unfold refOf
  rw [ref_dot_plain]
  exact Idealize.ShloMosaic.StackMember.dotGeneral_plain_apply (φ₁ := .f32) (φ₂ := .f32) none (extf (F := Ideal) (φ := .bf16) .f32 A bitsLt_bf16_f32) (extf (F := Ideal) (φ := .bf16) .f32 B bitsLt_bf16_f32) r l

end Cert.RingMatmul

end
-- ==== Proof.Equation.lean ====
/-
# The kernel's result is the reference's

Over the extended reals, with every device holding its block of a whole `A` and all of `B`, the array every device computes is the
reference's result: both are, entry by entry, the same sum of products.
-/
module

public import proofs.«01_k».proof.Proof.Buffers
public import proofs.«01_k».proof.Proof.Product
public import proofs.«01_k».proof.Proof.Rows
public import proofs.«01_k».proof.Proof.RefValue

@[expose] public section

noncomputable section

namespace Cert.RingMatmul

open Cert.KernelIdeal Cert.KernelIdeal.Gen
open Idealize.ShloMosaic
open Idealize.ShloMosaic.TcCoe
open Idealize.ShloMosaic.ValueIdx

variable (m : (ℓ : Loc nD τ sig) → Buf (Elt Ideal) ℓ) (ρ : Dev nD → PrngReg)

/-- Entry (`r`, `l`) of the result lies in block `r / 768`, at row `r % 768` of it. -/
theorem inBlock_ix2 (r : Fin 12288) (l : Fin 3072) :
    inBlock (ix2 r l) = ix2 (⟨r.val % 768, Nat.mod_lt _ (by decide)⟩ : Fin 768) l := by
  funext a
  fin_cases a <;> rfl
/-- Block and row within the block name the row of the whole array. -/
theorem wholeRow_blockOf (r : Fin 12288) (l : Fin 3072) : wholeRow (blockOf (ix2 r l)) ⟨r.val % 768, Nat.mod_lt _ (by decide)⟩ = r :=
  Fin.ext (Nat.div_add_mod r.val 768)

/-- **The equation**: the array device `c` computes is the reference's result. -/
theorem outAll_eq_ref (A : (⟨2, ![12288, 1536]⟩ : Shape).Idx → Elt Ideal .bf16) (B : S1536x3072.Idx → Elt Ideal .bf16)
    (hA : ∀ c : Dev nD, m ((c : Thread nD τ).loc main_arg0) = Layout.block ⟨2, ![3072, 1536]⟩ ⟨2, ![12288, 1536]⟩ 0 4 c A)
    (hB : ∀ c : Dev nD, m ((c : Thread nD τ).loc main_arg1) = B) (c : Dev nD) : outAll m ρ c = refOf A B := by
  funext x
  obtain ⟨r, l, rfl⟩ : ∃ (r : Fin 12288) (l : Fin 3072), x = ix2 r l := ⟨x (0 : Fin 2), x (1 : Fin 2), eq_ix2 x⟩
  rw [refOf_entry]
  show prodOf (F := Ideal) (rowsOf m ρ (blockOf (ix2 r l))) (bStg m ρ c) (inBlock (ix2 r l)) = _
  rw [inBlock_ix2, prodOf_entry, bStg_eq, hB]
  refine Finset.sum_congr rfl fun k _ => ?_
  rw [rowsOf_entry m ρ A hA, wholeRow_blockOf]

end Cert.RingMatmul

end
-- ==== Proof.lean ====
/-
# The certificate

The frames of kernel, idealized kernel and reference, and the equation of the idealized kernel's result with the reference's, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The idealized kernel over any float values: it runs, its arguments end unchanged, every semaphore ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => ⟨(h.1 c).1, (h.1 c).2.1⟩, h.2⟩) (Cert.RingMatmul.run_main m ρ)

/-- The idealized kernel's frame: the run, over the extended reals. -/
theorem frame_kernelIdeal : Cert.quiescent_KernelIdeal := fun m ρ _ => frame_any (F := Ideal) m ρ

/-- The two kernels' body tables are the same: one label, the same text. -/
theorem bodies_eq {F : FTy → Type} [FloatOps F] : Cert.Kernel.defs₀ (F := F) = Cert.KernelIdeal.defs₀ (F := F) := by
  unfold Cert.Kernel.defs₀ Cert.KernelIdeal.defs₀
  refine congrArg _ (funext fun l => funext fun args => ?_)
  match l, args with
  | 0, (t, s) => rfl
/-- So are their tables with the pipeline's labels added. -/
theorem defs_eq {F : FTy → Type} [FloatOps F] : Cert.Kernel.defs (F := F) = Cert.KernelIdeal.defs (F := F) :=
  congrArg (Pipeline.defs Cert.KernelIdeal.pcfgs) bodies_eq

/-- The kernel's frame: its text is the idealized kernel's, so its run is the same run, over the machine's words. -/
theorem frame_kernel : Cert.quiescent_Kernel := by
  intro m ρ _
  rw [defs_eq]
  exact frame_any (F := Bits) m ρ

/-- The reference: it runs, its arguments end unchanged, every semaphore ends at zero — it has none. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- From matching arguments the idealized kernel leaves on every device the reference's result. -/
theorem algebraic : Cert.algebraic_KernelIdeal_ReferenceIdeal := fun m ρ m' ρ' _ h =>
  ⟨Cert.RingMatmul.refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ hr c => ⟨(hr.1 c).2.2.trans (Cert.RingMatmul.outAll_eq_ref m ρ _ _ (fun d => (h d).1) (fun d => (h d).2) c), (hr.1 c).1, (hr.1 c).2.1⟩)
      (Cert.RingMatmul.run_main (F := Ideal) m ρ),
    (θ_run (Cert.ReferenceIdeal.defs (F := Ideal)) _ _).mono (fun _ hr => hr 0) (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
